-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt_two" .f32 0x3F3504F3#32 (((Real.sqrt 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S1x2048x1024 .f32) (main_arg1 : FVec F S8x1024 .f32) (main_arg2 : FVec F S8x2048x1024 .f32) (main_arg3 : FVec F S8x2048 .f32) (main_arg4 : FVec F S8x1024x2048 .f32) (main_arg5 : FVec F S8x1024 .f32) : IVec S_ 1 × IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  (main_v3, main_v7)
-- ==== Kernel.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S2048x1024 : Shape := ⟨2, ![2048, 1024]⟩
abbrev S2048x8 : Shape := ⟨2, ![2048, 8]⟩
abbrev S1x1 : Shape := ⟨2, ![1, 1]⟩
abbrev S2048 : Shape := ⟨1, ![2048]⟩
abbrev S1x2048 : Shape := ⟨2, ![1, 2048]⟩
abbrev S8 : Shape := ⟨1, ![8]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S8x1x2048 : Shape := ⟨3, ![8, 1, 2048]⟩
abbrev S8x1x1024 : Shape := ⟨3, ![8, 1, 1024]⟩
abbrev S512x8 : Shape := ⟨2, ![512, 8]⟩
abbrev S512x1024 : Shape := ⟨2, ![512, 1024]⟩
abbrev S1x1x2048 : Shape := ⟨3, ![1, 1, 2048]⟩
abbrev S1x1024x2048 : Shape := ⟨3, ![1, 1024, 2048]⟩
abbrev S1x1x1024 : Shape := ⟨3, ![1, 1, 1024]⟩
abbrev S512x2048 : Shape := ⟨2, ![512, 2048]⟩
abbrev S1024x2048 : Shape := ⟨2, ![1024, 2048]⟩
abbrev S1x1024 : Shape := ⟨2, ![1, 1024]⟩
abbrev S512 : Shape := ⟨1, ![512]⟩
abbrev S512x1 : Shape := ⟨2, ![512, 1]⟩
abbrev S_ : Shape := ⟨0, ![]⟩

abbrev nBuf : Space → Nat
  | .hbm => 14
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x2048x1024, .f32⟩
  | .hbm, ⟨3, _⟩ => ⟨S8x2048, .f32⟩
  | .hbm, ⟨4, _⟩ => ⟨S8x1024x2048, .f32⟩
  | .hbm, ⟨5, _⟩ => ⟨S8x1024, .f32⟩
  | .hbm, ⟨6, _⟩ => ⟨S2048x1024, .f32⟩
  | .hbm, ⟨7, _⟩ => ⟨S2048x8, .f32⟩
  | .hbm, ⟨8, _⟩ => ⟨S1x1, .f32⟩
  | .hbm, ⟨9, _⟩ => ⟨S8x1x2048, .f32⟩
  | .hbm, ⟨10, _⟩ => ⟨S8x1x1024, .f32⟩
  | .hbm, ⟨11, _⟩ => ⟨S2048x1024, .f32⟩
  | .hbm, ⟨12, _⟩ => ⟨S1x2048x1024, .f32⟩
  | .hbm, ⟨13, _⟩ => ⟨S_, .f32⟩
  | .local _ .vmem, ⟨0, _⟩ => ⟨S2048x1024, .f32⟩
  | .local _ .vmem, ⟨1, _⟩ => ⟨S8x1024, .f32⟩
  | .local _ .vmem, ⟨2, _⟩ => ⟨S2048x8, .f32⟩
  | .local _ .vmem, ⟨3, _⟩ => ⟨S1x1, .f32⟩
  | .local _ .vmem, ⟨4, _⟩ => ⟨S512x8, .f32⟩
  | .local _ .vmem, ⟨5, _⟩ => ⟨S512x8, .f32⟩
  | .local _ .vmem, ⟨6, _⟩ => ⟨S512x1024, .f32⟩
  | .local _ .vmem, ⟨7, _⟩ => ⟨S512x1024, .f32⟩
  | .local _ .vmem, ⟨8, _⟩ => ⟨S1x2048x1024, .f32⟩
  | .local _ .vmem, ⟨9, _⟩ => ⟨S1x2048x1024, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x2048, .f32⟩
  | .local _ .vmem, ⟨13, _⟩ => ⟨S1x1024x2048, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![4, 8], ![false, false]⟩

def k1_cond1 (i : grid1.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_20 : BitVec 32 := 0#32
  let v38 : BitVec 1 := Scalar.cmpi .ne v37 c0_i32_20
  v38

def k1_cond2 (i : grid1.Coords) : BitVec 1 :=
  let arg1 : BitVec 32 := BitVec.ofNat 32 (i 1).val
  let c0_i32_21 : BitVec 32 := 0#32
  let v39 : BitVec 1 := Scalar.cmpi .ne arg1 c0_i32_21
  let v40 : BitVec 32 := Scalar.extui v39
  let c0_i32_22 : BitVec 32 := 0#32
  let v41 : BitVec 1 := Scalar.cmpi .ne v40 c0_i32_22
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== KernelIdeal.lean ====
variable {F : FTy → Type} [FloatOps F] [Named F]
def κ : String → Option EReal := fun
  | "inv_sqrt_two" => some (((Real.sqrt 2)⁻¹ : ℝ) : EReal)
  | _ => none
-- ==== ReferenceIdeal.lean ====
abbrev S1x2048x1024 : Shape := ⟨3, ![1, 2048, 1024]⟩
abbrev S8x1024 : Shape := ⟨2, ![8, 1024]⟩
abbrev S8x2048x1024 : Shape := ⟨3, ![8, 2048, 1024]⟩
abbrev S8x2048 : Shape := ⟨2, ![8, 2048]⟩
abbrev S8x1024x2048 : Shape := ⟨3, ![8, 1024, 2048]⟩
abbrev S2048x1024 : Shape := ⟨2, ![2048, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2 : Shape := ⟨1, ![2]⟩
abbrev S1x2 : Shape := ⟨2, ![1, 2]⟩
abbrev S8x2048x2048 : Shape := ⟨3, ![8, 2048, 2048]⟩
abbrev S8x1x2048 : Shape := ⟨3, ![8, 1, 2048]⟩
abbrev S8x1x1024 : Shape := ⟨3, ![8, 1, 1024]⟩
abbrev S2048x1x2 : Shape := ⟨3, ![2048, 1, 2]⟩
abbrev S8 : Shape := ⟨1, ![8]⟩
abbrev S1x8x1 : Shape := ⟨3, ![1, 8, 1]⟩
abbrev S2048x8x2 : Shape := ⟨3, ![2048, 8, 2]⟩
abbrev S2048x2x1 : Shape := ⟨3, ![2048, 2, 1]⟩
abbrev S1x1x8 : Shape := ⟨3, ![1, 1, 8]⟩
abbrev S2048x2x8 : Shape := ⟨3, ![2048, 2, 8]⟩

abbrev nBuf : Space → Nat
  | .hbm => 146
  | .vmem => 0
  | .smem => 0
  | _ => 0

abbrev hbmTy0_0 (i : Nat) : BufTy := match i % 128 with
  | 0 => ⟨S1x2048x1024, .f32⟩
  | 1 => ⟨S8x1024, .f32⟩
  | 2 => ⟨S8x2048x1024, .f32⟩
  | 3 => ⟨S8x2048, .f32⟩
  | 4 => ⟨S8x1024x2048, .f32⟩
  | 5 => ⟨S8x1024, .f32⟩
  | 6 => ⟨S2048x1024, .f32⟩
  | 7 => ⟨S1024x8, .f32⟩
  | 8 => ⟨S2048x8, .f32⟩
  | 9 => ⟨S_, .f32⟩
  | 10 => ⟨S2048, .f32⟩
  | 11 => ⟨S_, .f32⟩
  | 12 => ⟨S2048, .f32⟩
  | 13 => ⟨S2048, .f32⟩
  | 14 => ⟨S2048x1, .f32⟩
  | 15 => ⟨S2048x8, .f32⟩
  | 16 => ⟨S2048x8, .f32⟩
  | 17 => ⟨S2048x8, .f32⟩
  | 18 => ⟨S_, .f32⟩
  | 19 => ⟨S2048, .f32⟩
  | 20 => ⟨S2048x1, .f32⟩
  | 21 => ⟨S2048x8, .f32⟩
  | 22 => ⟨S2048x8, .f32⟩
  | 23 => ⟨S2048x2, .f32⟩
  | 24 => ⟨S2048x2, .i32⟩
  | 25 => ⟨S_, .f32⟩
  | 26 => ⟨S_, .f32⟩
  | 27 => ⟨S2048x2, .f32⟩
  | 28 => ⟨S_, .f32⟩
  | 29 => ⟨S2048x1, .f32⟩
  | 30 => ⟨S2048x1, .f32⟩
  | 31 => ⟨S2048x2, .f32⟩
  | 32 => ⟨S2, .i32⟩
  | 33 => ⟨S1x2, .i32⟩
  | 34 => ⟨S_, .i32⟩
  | 35 => ⟨S1x2, .i32⟩
  | 36 => ⟨S1x2, .i1⟩
  | 37 => ⟨S_, .f32⟩
  | 38 => ⟨S2048x2, .f32⟩
  | 39 => ⟨S2048x2, .i1⟩
  | 40 => ⟨S2048x2, .i1⟩
  | 41 => ⟨S2048x2, .i1⟩
  | 42 => ⟨S2048x2, .f32⟩
  | 43 => ⟨S2048x2, .f32⟩
  | 44 => ⟨S_, .i32⟩
  | 45 => ⟨S_, .i32⟩
  | 46 => ⟨S2048x2, .i32⟩
  | 47 => ⟨S2048x2, .i32⟩
  | 48 => ⟨S_, .f32⟩
  | 49 => ⟨S2048, .f32⟩
  | 50 => ⟨S2048x1, .f32⟩
  | 51 => ⟨S_, .f32⟩
  | 52 => ⟨S_, .f32⟩
  | 53 => ⟨S2048x1, .f32⟩
  | 54 => ⟨S2048x1, .f32⟩
  | 55 => ⟨S2048x2, .f32⟩
  | 56 => ⟨S2048x2, .f32⟩
  | 57 => ⟨S2048x2, .f32⟩
  | 58 => ⟨S2048x2, .f32⟩
  | 59 => ⟨S8x2048x2048, .f32⟩
  | 60 => ⟨S8x2048x2048, .f32⟩
  | 61 => ⟨S8x1x2048, .f32⟩
  | 62 => ⟨S8x2048x2048, .f32⟩
  | 63 => ⟨S8x2048x2048, .f32⟩
  | 64 => ⟨S_, .f32⟩
  | 65 => ⟨S8x2048x2048, .f32⟩
  | 66 => ⟨S8x2048x2048, .f32⟩
  | 67 => ⟨S8x2048x2048, .f32⟩
  | 68 => ⟨S_, .f32⟩
  | 69 => ⟨S_, .f32⟩
  | 70 => ⟨S8x2048x2048, .f32⟩
  | 71 => ⟨S8x2048x2048, .f32⟩
  | 72 => ⟨S8x2048x2048, .f32⟩
  | 73 => ⟨S8x2048x2048, .f32⟩
  | 74 => ⟨S8x2048x1024, .f32⟩
  | 75 => ⟨S8x1x1024, .f32⟩
  | 76 => ⟨S8x2048x1024, .f32⟩
  | 77 => ⟨S8x2048x1024, .f32⟩
  | 78 => ⟨S2048x1x2, .i32⟩
  | 79 => ⟨S8, .i32⟩
  | 80 => ⟨S1x8x1, .i32⟩
  | 81 => ⟨S2048x8x2, .i32⟩
  | 82 => ⟨S2048x8x2, .i32⟩
  | 83 => ⟨S2048x8x2, .i1⟩
  | 84 => ⟨S2048x1x2, .f32⟩
  | 85 => ⟨S2048x8x2, .f32⟩
  | 86 => ⟨S2048x8x2, .f32⟩
  | 87 => ⟨S2048x8x2, .f32⟩
  | 88 => ⟨S_, .f32⟩
  | 89 => ⟨S2048x8, .f32⟩
  | 90 => ⟨S2048x1024, .f32⟩
  | 91 => ⟨S1x2048x1024, .f32⟩
  | 92 => ⟨S_, .f32⟩
  | 93 => ⟨S2048, .f32⟩
  | 94 => ⟨S_, .f32⟩
  | 95 => ⟨S2048, .f32⟩
  | 96 => ⟨S2048, .f32⟩
  | 97 => ⟨S2048x1, .f32⟩
  | 98 => ⟨S2048x8, .f32⟩
  | 99 => ⟨S2048x8, .f32⟩
  | 100 => ⟨S2048x8, .f32⟩
  | 101 => ⟨S_, .f32⟩
  | 102 => ⟨S2048, .f32⟩
  | 103 => ⟨S2048x1, .f32⟩
  | 104 => ⟨S2048x8, .f32⟩
  | 105 => ⟨S2048x8, .f32⟩
  | 106 => ⟨S_, .i32⟩
  | 107 => ⟨S2048x2, .i32⟩
  | 108 => ⟨S2048x2, .i1⟩
  | 109 => ⟨S_, .i32⟩
  | 110 => ⟨S_, .i32⟩
  | 111 => ⟨S2048x2, .i32⟩
  | 112 => ⟨S2048x2, .i32⟩
  | 113 => ⟨S2048x2x1, .i32⟩
  | 114 => ⟨S1x1x8, .i32⟩
  | 115 => ⟨S2048x2x8, .i32⟩
  | 116 => ⟨S2048x2x8, .i32⟩
  | 117 => ⟨S2048x2x8, .i1⟩
  | 118 => ⟨S2048x2x8, .f32⟩
  | 119 => ⟨S2048x2, .f32⟩
  | 120 => ⟨S2048x2x1, .f32⟩
  | 121 => ⟨S2048x2x8, .f32⟩
  | 122 => ⟨S2048x2x8, .f32⟩
  | 123 => ⟨S_, .f32⟩
  | 124 => ⟨S2048x8, .f32⟩
  | 125 => ⟨S_, .f32⟩
  | 126 => ⟨S_, .f32⟩
  | 127 => ⟨S_, .f32⟩
  | _ => ⟨S1x2048x1024, .f32⟩

abbrev hbmTy0_1 (i : Nat) : BufTy := match i % 128 with
  | 0 => ⟨S_, .f32⟩
  | 1 => ⟨S_, .f32⟩
  | 2 => ⟨S_, .f32⟩
  | 3 => ⟨S8, .f32⟩
  | 4 => ⟨S8, .f32⟩
  | 5 => ⟨S8, .f32⟩
  | 6 => ⟨S_, .f32⟩
  | 7 => ⟨S8, .f32⟩
  | 8 => ⟨S_, .f32⟩
  | 9 => ⟨S8, .f32⟩
  | 10 => ⟨S8, .f32⟩
  | 11 => ⟨S8, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_call0_call0_cst : Ref sig .tc := ⟨.hbm, 25, rfl⟩
abbrev main_call0_call0_v0 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_call3_v0 : Ref sig .tc := ⟨.hbm, 110, rfl⟩
abbrev main_call3_v1 : Ref sig .tc := ⟨.hbm, 111, rfl⟩
abbrev main_v79 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_15 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_cst_17 : Ref sig .tc := ⟨.hbm, 127, rfl⟩
abbrev main_call5_v0 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_19 : Ref sig .tc := ⟨.hbm, 134, rfl⟩
abbrev main_v91 : Ref sig .tc := ⟨.hbm, 135, rfl⟩
abbrev main_cst_20 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_21 : Ref sig .tc := ⟨.hbm, 140, rfl⟩
abbrev main_v95 : Ref sig .tc := ⟨.hbm, 141, rfl⟩
abbrev main_cst_22 : Ref sig .tc := ⟨.hbm, 142, rfl⟩
abbrev main_v96 : Ref sig .tc := ⟨.hbm, 143, rfl⟩
abbrev main_cst_23 : Ref sig .tc := ⟨.hbm, 144, rfl⟩
abbrev main_v97 : Ref sig .tc := ⟨.hbm, 145, rfl⟩

abbrev nD : Nat := 1
abbrev τ : Topo := Topo.v7x

variable {F : FTy → Type} [FloatOps F]
-- ==== Proof.KernelIdealBodies.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.UnfoldOut
public import Idealize.ShloMosaic.Lib.WordCmp

@[expose] public section

set_option maxRecDepth 16384

/-!
  What the two kernel bodies of the program do at one grid point, at any floating-point reading `F`.
  The routing kernel leaves the expert weights and the auxiliary loss, each a function of its two input blocks; the
  expert kernel leaves its own contribution at the first expert of a token block, and afterwards the previous contents of
  the output block plus its contribution.  From these triples come each pipeline's proof data and body obligation.
-/

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- what the TensorCore's buffers hold when a kernel region is entered
variable (V : (c : Dev nD) → (b : Ref sig .tc) → Buf (Elt F) ((c : Thread nD τ).loc b))

/-! ## The whole-buffer accesses of the two bodies -/

abbrev rX : Rect S2048x1024 := Rect.unit (s := S2048x1024) ![0, 0] S2048x1024.size inb_S2048x1024_S2048x1024_0_0
abbrev rRw : Rect S8x1024 := Rect.unit (s := S8x1024) ![0, 0] S8x1024.size inb_S8x1024_S8x1024_0_0
abbrev rWe : Rect S2048x8 := Rect.unit (s := S2048x8) ![0, 0] S2048x8.size inb_S2048x8_S2048x8_0_0
abbrev rAux : Rect S1x1 := Rect.unit (s := S1x1) ![0, 0] S1x1.size inb_S1x1_S1x1_0_0
abbrev rTok : Rect S512x1024 := Rect.unit (s := S512x1024) ![0, 0] S512x1024.size inb_S512x1024_S512x1024_0_0
abbrev rW1 : Rect S1x2048x1024 := Rect.unit (s := S1x2048x1024) ![0, 0, 0] S1x2048x1024.size inb_S1x2048x1024_S1x2048x1024_0_0_0
abbrev rB1 : Rect S1x1x2048 := Rect.unit (s := S1x1x2048) ![0, 0, 0] S1x1x2048.size inb_S1x1x2048_S1x1x2048_0_0_0
abbrev rW2 : Rect S1x1024x2048 := Rect.unit (s := S1x1024x2048) ![0, 0, 0] S1x1024x2048.size inb_S1x1024x2048_S1x1024x2048_0_0_0
abbrev rB2 : Rect S1x1x1024 := Rect.unit (s := S1x1x1024) ![0, 0, 0] S1x1x1024.size inb_S1x1x1024_S1x1x1024_0_0_0
abbrev rRow : Rect S512x8 := Rect.unit (s := S512x8) ![0, 0] S512x8.size inb_S512x8_S512x8_0_0

/-! ## The routing kernel -/

/-- A window's block at a point of the routing pipeline, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The expert weights the routing body computes from the tokens and the router matrix. -/
def weightsOf (x0 : Vec F S2048x1024 .f32) (x1 : Vec F S8x1024 .f32) : Vec F S2048x8 .f32 :=
  k0_pay14 (F := F) (iota .tc S8x2048 32 [0] iota_S8x2048_d0_w32) (k0_pay3 x0 x1) (k0_pay6 x0 x1) (k0_pay7 x0 x1)
    (k0_pay10 x0 x1) (k0_pay11 x0 x1)

/-- The auxiliary loss the routing body computes from the same two blocks. -/
def auxOf (x0 : Vec F S2048x1024 .f32) (x1 : Vec F S8x1024 .f32) : Vec F S1x1 .f32 :=
  k0_pay15 (k0_pay1 x0 x1) (iota .tc S8x2048 32 [0] iota_S8x2048_d0_w32) (k0_pay3 x0 x1) (k0_pay6 x0 x1) (k0_pay7 x0 x1)

/-- The weights' staging buffer after the routing body: one store over the whole buffer. -/
def left0_2 (x0 : Vec F S2048x1024 .f32) (x1 : Vec F S8x1024 .f32) : Vec F S2048x8 .f32 :=
  View.canon [⟨rWe, weightsOf (View.ld x0 rX) (View.ld x1 rRw)⟩]
/-- The loss's staging buffer after the routing body. -/
def left0_3 (x0 : Vec F S2048x1024 .f32) (x1 : Vec F S8x1024 .f32) : Vec F S1x1 .f32 :=
  View.canon [⟨rAux, auxOf (View.ld x0 rX) (View.ld x1 rRw)⟩]

theorem whole_We (p : Vec F S2048x8 .f32) (y : S2048x8.Idx) :
    ∃ pc ∈ ([⟨rWe, p⟩] : List (View.Piece (Elt F) S2048x8 .f32)), y ∈ pc.1.set :=
  View.cover_of_tiled [⟨rWe, p⟩] S2048x8.size (by rfl) y
theorem whole_Aux (p : Vec F S1x1 .f32) (y : S1x1.Idx) :
    ∃ pc ∈ ([⟨rAux, p⟩] : List (View.Piece (Elt F) S1x1 .f32)), y ∈ pc.1.set :=
  View.cover_of_tiled [⟨rAux, p⟩] S1x1.size (by rfl) y

set_option maxHeartbeats 1000000 in
/-- The routing body keeps its two inputs and leaves the weights and the loss. -/
theorem routing_triple (c : Dev nD) (E : Set ℕ) (arg0 : Memref sig .tc .vmem S2048x1024 .f32) (harg0 : arg0.IsWhole) (arg1 : Memref sig .tc .vmem S8x1024 .f32) (harg1 : arg1.IsWhole) (arg2 : Memref sig .tc .vmem S2048x8 .f32) (harg2 : arg2.IsWhole) (arg3 : Memref sig .tc .vmem S1x1 .f32) (harg3 : arg3.IsWhole)
    (x0 : Vec F S2048x1024 .f32) (x1 : Vec F S8x1024 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (left0_2 x0 x1) ∗ owns (c : Thread nD τ) arg3 fullShare (left0_3 x0 x1)) -∗ K ⟨⟩))
      ⊢ wp frame (wpE (defs₀ (F := F)) Variants.none c none) E (cc0__routing_kernel arg0 harg0 arg1 harg1 arg2 harg2 arg3 harg3) K := by
  simp only [cc0__routing_kernel_eq_skeleton]; unfold cc0__routing_kernel_skel
  simp only [k0_part2_eq_skeleton, k0_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (whole_We _)).trans rfl
  iexists _; isplitr
  swap; · iexact H3
  ipureintro
  exact (View.read_writes_eq_canon _ _ _ (whole_Aux _)).trans rfl

/-- The routing pipeline's proof data: its arrays as the region finds them, its inputs' buffers left at their blocks and its
    outputs' at the weights and the loss of those blocks. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => left0_2 (blk0 V c 0 t) (blk0 V c 1 t)
    | ⟨3, _⟩ => left0_3 (blk0 V c 0 t) (blk0 V c 1 t)
  Φ _ := Pipeline.ΦA spec0 c
  q _ := fullShare
  owed _ := 0

/-- The routing pipeline's arrays are the entry contents. -/
theorem data0_A (c : Dev nD) (w : Fin cfg0.W) : (data0 V c).A w = V c (Pipeline.arrRef spec0 w) := by
  dsimp only [data0]
theorem data0_after_0 (c : Dev nD) (t : Fin cfg0.N) : (data0 V c).after 0 t = blk0 V c 0 t := by dsimp only [data0]
theorem data0_after_1 (c : Dev nD) (t : Fin cfg0.N) : (data0 V c).after 1 t = blk0 V c 1 t := by dsimp only [data0]
theorem data0_after_2 (c : Dev nD) (t : Fin cfg0.N) : (data0 V c).after 2 t = left0_2 (blk0 V c 0 t) (blk0 V c 1 t) := by dsimp only [data0]
theorem data0_after_3 (c : Dev nD) (t : Fin cfg0.N) : (data0 V c).after 3 t = left0_3 (blk0 V c 0 t) (blk0 V c 1 t) := by dsimp only [data0]

/-- Input 0's staging buffer holds its block when the body of region 0 starts. -/
theorem data0_before_0 (c : Dev nD) (t : Fin cfg0.N) (d) : (data0 V c).before 0 t d = blk0 V c 0 t :=
  ((data0 V c).before_in_eq_fetched 0 rfl (fun _ => rfl) (fun _ _ _ => rfl)
    (fun t => by rw [data0_after_0]; unfold Dat.blockOf blk0; rw [data0_A]; try rfl) t d).trans
    (by unfold Dat.fetched Dat.blockOf blk0; rw [data0_A]; try rfl)
/-- Input 1's staging buffer holds its block when the body of region 0 starts. -/
theorem data0_before_1 (c : Dev nD) (t : Fin cfg0.N) (d) : (data0 V c).before 1 t d = blk0 V c 1 t :=
  ((data0 V c).before_in_eq_fetched 1 rfl (fun _ => rfl) (fun _ _ _ => rfl)
    (fun t => by rw [data0_after_1]; unfold Dat.blockOf blk0; rw [data0_A]; try rfl) t d).trans
    (by unfold Dat.fetched Dat.blockOf blk0; rw [data0_A]; try rfl)

/-- What the body of region 0 is handed at a point. -/
def given0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d)))
/-- What the body of region 0 hands back at a point. -/
def returned0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t))

/-- The routing body at a point. -/
theorem routing_point (c : Dev nD) (t : Fin cfg0.N) :
    given0 V c t ⊢ wp frame (wpE (defs₀ (F := F)) Variants.none c none) Set.univ (bodyAt0 t) (fun _ => returned0 V c t) := by
  unfold given0 returned0 bodyAt0
  simp only [data0_before_0, data0_before_1]
  rw [show (data0 V c).Φ t.succ = (data0 V c).Φ t.castSucc from rfl,
    show (data0 V c).owesAt () t.succ = (data0 V c).owesAt () t.castSucc from rfl,
    data0_after_0, data0_after_1, data0_after_2, data0_after_3]
  iintro ⟨HΦ, Ho, ⟨%d0, H0⟩, ⟨%d1, H1⟩, ⟨%d2, H2⟩, ⟨%d3, H3⟩⟩
  iapply (routing_triple c Set.univ _ _ _ _ _ _ _ _ (blk0 V c 0 t) (blk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body the routing pipeline calls at a point. -/
theorem row0 (t : Fin cfg0.N) : defs₀ (F := F) .tc cfg0.body (cfg0.bodyArgs t (cfg0.slots t)) = bodyAt0 t := by
  unfold defs₀; rw [Defs.onTc_tc]

/-- The routing pipeline's body obligation. -/
theorem obligation0 (c : Dev nD) : BodyObligation (data0 (F := F) V c) (defs₀ (F := F)) Variants.none () Set.univ := fun t => by
  rw [bigSep_W0, bigSep_W0, row0]
  exact triple_restated (routing_point V c t) rfl .rfl fun _ => .rfl

/-! ## The expert kernel -/

/-- A window's block at a point of the expert pipeline, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first branch of the expert body is taken at the first expert of a token block, -/
theorem first_iff : ∀ t : Fin cfg1.N, k1_cond1 (grid1.coords t) = 1#1 ↔ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [k1_cond1, e0, e1]
    word_cmp
   : ∀ t : Fin grid1.N, k1_cond1 (grid1.coords t) = 1#1 ↔ t.val % 8 = 0)
/-- and the second branch at the others. -/
theorem later_iff : ∀ t : Fin cfg1.N, k1_cond2 (grid1.coords t) = 1#1 ↔ ¬ t.val % 8 = 0 :=
  (fun t => by
    have ht : t.val < 32 := Nat.lt_of_lt_of_eq t.isLt N_1
    have e0 : (grid1.coords t 0).val = t.val / 8 % 4 := Pipeline.Grid.coords_val t 0 (by decide) rfl
    have e1 : (grid1.coords t 1).val = t.val / 1 % 8 := Pipeline.Grid.coords_val t 1 (by decide) rfl
    simp only [k1_cond2, e0, e1]
    word_cmp
   : ∀ t : Fin grid1.N, k1_cond2 (grid1.coords t) = 1#1 ↔ ¬ t.val % 8 = 0)

/-- One of the two branches is taken at every point, so every point stores the output block. -/
theorem out_live (i : grid1.Coords) : cfg1.idle 6 i = false := by
  have h : ∀ n : ℕ, n < 8 →
      (!(Scalar.cmpi .ne (Scalar.extui (Scalar.cmpi .eq (BitVec.ofNat 32 n) 0#32) : BitVec 32) 0#32 == 1#1)
        && !(Scalar.cmpi .ne (Scalar.extui (Scalar.cmpi .ne (BitVec.ofNat 32 n) 0#32) : BitVec 32) 0#32 == 1#1)) = false := by decide
  exact h (i 1).val (i 1).isLt

/-- One expert's contribution to its token block: the expert's output scaled by the tokens' weights for it. -/
def contribution (i : grid1.Coords) (x0 : Vec F S512x8 .f32) (x1 : Vec F S512x1024 .f32) (x2 : Vec F S1x2048x1024 .f32) (x3 : Vec F S1x1x2048 .f32) (x4 : Vec F S1x1024x2048 .f32) (x5 : Vec F S1x1x1024 .f32) : Vec F S512x1024 .f32 :=
  k1_pay2 i (View.ld x1 rTok) (View.ld x2 rW1) (View.ld x3 rB1) (View.ld x4 rW2) (View.ld x5 rB2) (View.ld x0 rRow)

/-- The output block after the first expert: its contribution. -/
def leftFirst (i : grid1.Coords) (x0 : Vec F S512x8 .f32) (x1 : Vec F S512x1024 .f32) (x2 : Vec F S1x2048x1024 .f32) (x3 : Vec F S1x1x2048 .f32) (x4 : Vec F S1x1024x2048 .f32) (x5 : Vec F S1x1x1024 .f32) : Vec F S512x1024 .f32 :=
  View.canon [⟨rTok, contribution i x0 x1 x2 x3 x4 x5⟩]
/-- The output block after a later expert: what it held, with the contribution added. -/
def leftLater (i : grid1.Coords) (x0 : Vec F S512x8 .f32) (x1 : Vec F S512x1024 .f32) (x2 : Vec F S1x2048x1024 .f32) (x3 : Vec F S1x1x2048 .f32) (x4 : Vec F S1x1024x2048 .f32) (x5 : Vec F S1x1x1024 .f32) (y : Vec F S512x1024 .f32) : Vec F S512x1024 .f32 :=
  View.canon [⟨rTok, k1_pay1 (contribution i x0 x1 x2 x3 x4 x5) (View.ld y rTok)⟩]

theorem whole_Tok (p : Vec F S512x1024 .f32) (y : S512x1024.Idx) :
    ∃ pc ∈ ([⟨rTok, p⟩] : List (View.Piece (Elt F) S512x1024 .f32)), y ∈ pc.1.set :=
  View.cover_of_tiled [⟨rTok, p⟩] S512x1024.size (by rfl) y

set_option maxHeartbeats 1000000 in
/-- The expert body at the first expert of a token block. -/
theorem expert_triple_first (c : Dev nD) (E : Set ℕ) (i : grid1.Coords) (arg2 : Memref sig .tc .vmem S512x8 .f32) (harg2 : arg2.IsWhole) (arg3 : Memref sig .tc .vmem S512x1024 .f32) (harg3 : arg3.IsWhole) (arg4 : Memref sig .tc .vmem S1x2048x1024 .f32) (harg4 : arg4.IsWhole) (arg5 : Memref sig .tc .vmem S1x1x2048 .f32) (harg5 : arg5.IsWhole) (arg6 : Memref sig .tc .vmem S1x1024x2048 .f32) (harg6 : arg6.IsWhole) (arg7 : Memref sig .tc .vmem S1x1x1024 .f32) (harg7 : arg7.IsWhole) (arg8 : Memref sig .tc .vmem S512x1024 .f32) (harg8 : arg8.IsWhole)
    (h1 : k1_cond1 i = 1#1) (h2 : ¬ k1_cond2 i = 1#1)
    (x0 : Vec F S512x8 .f32) (x1 : Vec F S512x1024 .f32) (x2 : Vec F S1x2048x1024 .f32) (x3 : Vec F S1x1x2048 .f32) (x4 : Vec F S1x1024x2048 .f32) (x5 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (leftFirst i x0 x1 x2 x3 x4 x5)) -∗ K ⟨⟩))
      ⊢ wp frame (wpE (defs₀ (F := F)) Variants.none c none) E (cc1__expert_kernel i arg2 harg2 arg3 harg3 arg4 harg4 arg5 harg5 arg6 harg6 arg7 harg7 arg8 harg8) K := by
  simp only [cc1__expert_kernel_eq_skeleton]; unfold cc1__expert_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (whole_Tok _)).trans rfl

set_option maxHeartbeats 1000000 in
/-- The expert body at a later expert of a token block. -/
theorem expert_triple_later (c : Dev nD) (E : Set ℕ) (i : grid1.Coords) (arg2 : Memref sig .tc .vmem S512x8 .f32) (harg2 : arg2.IsWhole) (arg3 : Memref sig .tc .vmem S512x1024 .f32) (harg3 : arg3.IsWhole) (arg4 : Memref sig .tc .vmem S1x2048x1024 .f32) (harg4 : arg4.IsWhole) (arg5 : Memref sig .tc .vmem S1x1x2048 .f32) (harg5 : arg5.IsWhole) (arg6 : Memref sig .tc .vmem S1x1024x2048 .f32) (harg6 : arg6.IsWhole) (arg7 : Memref sig .tc .vmem S1x1x1024 .f32) (harg7 : arg7.IsWhole) (arg8 : Memref sig .tc .vmem S512x1024 .f32) (harg8 : arg8.IsWhole)
    (h1 : ¬ k1_cond1 i = 1#1) (h2 : k1_cond2 i = 1#1)
    (x0 : Vec F S512x8 .f32) (x1 : Vec F S512x1024 .f32) (x2 : Vec F S1x2048x1024 .f32) (x3 : Vec F S1x1x2048 .f32) (x4 : Vec F S1x1024x2048 .f32) (x5 : Vec F S1x1x1024 .f32) (y : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (leftLater i x0 x1 x2 x3 x4 x5 y)) -∗ K ⟨⟩))
      ⊢ wp frame (wpE (defs₀ (F := F)) Variants.none c none) E (cc1__expert_kernel i arg2 harg2 arg3 harg3 arg4 harg4 arg5 harg5 arg6 harg6 arg7 harg7 arg8 harg8) K := by
  simp only [cc1__expert_kernel_eq_skeleton]; unfold cc1__expert_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (whole_Tok _)).trans rfl

/-- What the output's staging buffer holds after the body at position `n`: the contribution of the first expert of the
    token block, then one contribution added per expert. -/
def running (c : Dev nD) : (n : ℕ) → n < cfg1.N → Vec F S512x1024 .f32
  | 0, hn => leftFirst (grid1.coords ⟨0, hn⟩) (blk1 V c 0 ⟨0, hn⟩) (blk1 V c 1 ⟨0, hn⟩) (blk1 V c 2 ⟨0, hn⟩) (blk1 V c 3 ⟨0, hn⟩) (blk1 V c 4 ⟨0, hn⟩) (blk1 V c 5 ⟨0, hn⟩)
  | n + 1, hn =>
    if (n + 1) % 8 = 0 then leftFirst (grid1.coords ⟨n + 1, hn⟩) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩)
    else leftLater (grid1.coords ⟨n + 1, hn⟩) (blk1 V c 0 ⟨n + 1, hn⟩) (blk1 V c 1 ⟨n + 1, hn⟩) (blk1 V c 2 ⟨n + 1, hn⟩) (blk1 V c 3 ⟨n + 1, hn⟩) (blk1 V c 4 ⟨n + 1, hn⟩) (blk1 V c 5 ⟨n + 1, hn⟩) (running c n (Nat.lt_of_succ_lt hn))

/-- At the first expert of a token block. -/
theorem running_first (c : Dev nD) (t : Fin cfg1.N) (h : t.val % 8 = 0) :
    running V c t.val t.isLt = leftFirst (grid1.coords t) (blk1 V c 0 t) (blk1 V c 1 t) (blk1 V c 2 t) (blk1 V c 3 t) (blk1 V c 4 t) (blk1 V c 5 t) := by
  obtain ⟨n, hn⟩ := t
  cases n with
  | zero => rfl
  | succ n => exact (if_pos h).trans rfl
/-- At a later expert. -/
theorem running_later (c : Dev nD) (t : Fin cfg1.N) (h : ¬ t.val % 8 = 0) :
    running V c t.val t.isLt = leftLater (grid1.coords t) (blk1 V c 0 t) (blk1 V c 1 t) (blk1 V c 2 t) (blk1 V c 3 t) (blk1 V c 4 t) (blk1 V c 5 t)
      (running V c (t.val - 1) (Nat.lt_of_le_of_lt (Nat.sub_le _ _) t.isLt)) := by
  obtain ⟨n, hn⟩ := t
  cases n with
  | zero => exact absurd (Nat.zero_mod 8) h
  | succ n => exact (if_neg h).trans rfl

/-- The expert pipeline's proof data: its inputs' buffers left at their blocks, its output's at the running sum. -/
def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => running V c t.val t.isLt
  Φ _ := Pipeline.ΦA spec1 c
  q _ := fullShare
  owed _ := 0

/-- The expert pipeline's arrays are the entry contents. -/
theorem data1_A (c : Dev nD) (w : Fin cfg1.W) : (data1 V c).A w = V c (Pipeline.arrRef spec1 w) := by
  dsimp only [data1]
theorem data1_after_0 (c : Dev nD) (t : Fin cfg1.N) : (data1 V c).after 0 t = blk1 V c 0 t := by dsimp only [data1]
theorem data1_after_1 (c : Dev nD) (t : Fin cfg1.N) : (data1 V c).after 1 t = blk1 V c 1 t := by dsimp only [data1]
theorem data1_after_2 (c : Dev nD) (t : Fin cfg1.N) : (data1 V c).after 2 t = blk1 V c 2 t := by dsimp only [data1]
theorem data1_after_3 (c : Dev nD) (t : Fin cfg1.N) : (data1 V c).after 3 t = blk1 V c 3 t := by dsimp only [data1]
theorem data1_after_4 (c : Dev nD) (t : Fin cfg1.N) : (data1 V c).after 4 t = blk1 V c 4 t := by dsimp only [data1]
theorem data1_after_5 (c : Dev nD) (t : Fin cfg1.N) : (data1 V c).after 5 t = blk1 V c 5 t := by dsimp only [data1]
theorem data1_after_6 (c : Dev nD) (t : Fin cfg1.N) : (data1 V c).after 6 t = running V c t.val t.isLt := by dsimp only [data1]

/-- Input 0's staging buffer holds its block when the body of region 1 starts. -/
theorem data1_before_0 (c : Dev nD) (t : Fin cfg1.N) (d) : (data1 V c).before 0 t d = blk1 V c 0 t :=
  ((data1 V c).before_in_eq_fetched 0 rfl (fun _ => rfl) (fun _ _ _ => rfl)
    (fun t => by rw [data1_after_0]; unfold Dat.blockOf blk1; rw [data1_A]; try rfl) t d).trans
    (by unfold Dat.fetched Dat.blockOf blk1; rw [data1_A]; try rfl)
/-- Input 1's staging buffer holds its block when the body of region 1 starts. -/
theorem data1_before_1 (c : Dev nD) (t : Fin cfg1.N) (d) : (data1 V c).before 1 t d = blk1 V c 1 t :=
  ((data1 V c).before_in_eq_fetched 1 rfl (fun _ => rfl) (fun _ _ _ => rfl)
    (fun t => by rw [data1_after_1]; unfold Dat.blockOf blk1; rw [data1_A]; try rfl) t d).trans
    (by unfold Dat.fetched Dat.blockOf blk1; rw [data1_A]; try rfl)
/-- Input 2's staging buffer holds its block when the body of region 1 starts. -/
theorem data1_before_2 (c : Dev nD) (t : Fin cfg1.N) (d) : (data1 V c).before 2 t d = blk1 V c 2 t :=
  ((data1 V c).before_in_eq_fetched 2 rfl (fun _ => rfl) (fun _ _ _ => rfl)
    (fun t => by rw [data1_after_2]; unfold Dat.blockOf blk1; rw [data1_A]; try rfl) t d).trans
    (by unfold Dat.fetched Dat.blockOf blk1; rw [data1_A]; try rfl)
/-- Input 3's staging buffer holds its block when the body of region 1 starts. -/
theorem data1_before_3 (c : Dev nD) (t : Fin cfg1.N) (d) : (data1 V c).before 3 t d = blk1 V c 3 t :=
  ((data1 V c).before_in_eq_fetched 3 rfl (fun _ => rfl) (fun _ _ _ => rfl)
    (fun t => by rw [data1_after_3]; unfold Dat.blockOf blk1; rw [data1_A]; try rfl) t d).trans
    (by unfold Dat.fetched Dat.blockOf blk1; rw [data1_A]; try rfl)
/-- Input 4's staging buffer holds its block when the body of region 1 starts. -/
theorem data1_before_4 (c : Dev nD) (t : Fin cfg1.N) (d) : (data1 V c).before 4 t d = blk1 V c 4 t :=
  ((data1 V c).before_in_eq_fetched 4 rfl (fun _ => rfl) (fun _ _ _ => rfl)
    (fun t => by rw [data1_after_4]; unfold Dat.blockOf blk1; rw [data1_A]; try rfl) t d).trans
    (by unfold Dat.fetched Dat.blockOf blk1; rw [data1_A]; try rfl)
/-- Input 5's staging buffer holds its block when the body of region 1 starts. -/
theorem data1_before_5 (c : Dev nD) (t : Fin cfg1.N) (d) : (data1 V c).before 5 t d = blk1 V c 5 t :=
  ((data1 V c).before_in_eq_fetched 5 rfl (fun _ => rfl) (fun _ _ _ => rfl)
    (fun t => by rw [data1_after_5]; unfold Dat.blockOf blk1; rw [data1_A]; try rfl) t d).trans
    (by unfold Dat.fetched Dat.blockOf blk1; rw [data1_A]; try rfl)
/-- At a later expert the output's staging buffer still holds what the point before left: it was not written back between. -/
theorem data1_before_6 (c : Dev nD) (t : Fin cfg1.N) (h : ¬ t.val % 8 = 0) (d) :
    (data1 V c).before 6 t d = running V c (t.val - 1) (Nat.lt_of_le_of_lt (Nat.sub_le _ _) t.isLt) := by
  have hN : t.val < 32 := lt_of_lt_of_eq t.isLt (show cfg1.N = 32 from N_1)
  rw [Dat.before_out_kept _ 6 rfl t (by omega)
    (Bool.eq_false_iff.mpr fun hf => by have := (flush1_6 _).mp hf; dsimp only at this; omega) out_live (fun _ _ => rfl)]
  dsimp only [data1]

/-- What the body of region 1 is handed at a point. -/
def given1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d))
    ∗ (∃ d, owns (c : Thread nD τ) (st1_6 t) fullShare ((data1 V c).before 6 t d)))
/-- What the body of region 1 hands back at a point. -/
def returned1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t)
    ∗ owns (c : Thread nD τ) (st1_6 t) fullShare ((data1 V c).after 6 t))

set_option maxHeartbeats 800000 in
/-- The expert body at a point. -/
theorem expert_point (c : Dev nD) (t : Fin cfg1.N) :
    given1 V c t ⊢ wp frame (wpE (defs₀ (F := F)) Variants.none c none) Set.univ (bodyAt1 t) (fun _ => returned1 V c t) := by
  unfold given1 returned1 bodyAt1
  simp only [data1_before_0, data1_before_1, data1_before_2, data1_before_3, data1_before_4, data1_before_5]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5, data1_after_6]
  by_cases h : t.val % 8 = 0
  · rw [running_first V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (expert_triple_first c Set.univ (grid1.coords t) _ _ _ _ _ _ _ _ _ _ _ _ _ _ ((first_iff t).mpr h) (fun h' => (later_iff t).mp h' h)
      (blk1 V c 0 t) (blk1 V c 1 t) (blk1 V c 2 t) (blk1 V c 3 t) (blk1 V c 4 t) (blk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [running_later V c t h]
    simp only [data1_before_6 V c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (expert_triple_later c Set.univ (grid1.coords t) _ _ _ _ _ _ _ _ _ _ _ _ _ _ (fun h' => h ((first_iff t).mp h')) ((later_iff t).mpr h)
      (blk1 V c 0 t) (blk1 V c 1 t) (blk1 V c 2 t) (blk1 V c 3 t) (blk1 V c 4 t) (blk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body the expert pipeline calls at a point. -/
theorem row1 (t : Fin cfg1.N) : defs₀ (F := F) .tc cfg1.body (cfg1.bodyArgs t (cfg1.slots t)) = bodyAt1 t := by
  unfold defs₀; rw [Defs.onTc_tc]

/-- The expert pipeline's body obligation. -/
theorem obligation1 (c : Dev nD) : BodyObligation (data1 (F := F) V c) (defs₀ (F := F)) Variants.none () Set.univ := fun t => by
  rw [bigSep_W1, bigSep_W1, row1]
  rw [show cfg1.idle 6 (cfg1.grid.coords t) = false from out_live _]
  exact triple_restated (expert_point V c t) rfl .rfl fun _ => .rfl

end Cert.KernelIdeal.Moe

end
-- ==== Proof.KernelIdealRun.lean ====
module

public import proofs.«01_k».proof.Proof.KernelIdealBodies
public import Idealize.ShloMosaic.Lib.Pipeline.FrameSuffix

@[expose] public section

set_option maxRecDepth 16384

/-!
  The program's run: the buffers' contents at every boundary between a host stretch and a kernel region, the two regions
  as segments, and the run of the whole program from any memory with its semaphores at zero.  The run leaves the arguments
  as launched, every semaphore counter at zero, and each buffer at the last boundary's contents.
-/

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev arguments : List (Ref sig .tc) := [main_arg0, main_arg1, main_arg2, main_arg3, main_arg4, main_arg5]

/-! ## The contents at the boundaries -/

/-- A valuation read at the TensorCore's references. -/
abbrev onTcRefs (W : Dev nD → Valuation τ sig (Elt F)) : (c : Dev nD) → (b : Ref sig .tc) → Buf (Elt F) ((c : Thread nD τ).loc b) :=
  fun c b => W c b

/-- At launch. -/
abbrev B0 : Dev nD → Valuation τ sig (Elt F) := fun c b => m (c, b)
/-- When the routing region is entered. -/
abbrev B1 : Dev nD → Valuation τ sig (Elt F) := fun c => StableHlo.after hostOps0 (B0 m c)
/-- When the routing region is left: its arrays at what its write-backs leave. -/
def B2 (c : Dev nD) : Valuation τ sig (Elt F) :=
  Pipeline.withArrays spec0 c (B1 m c) fun w => (data0 (onTcRefs (B1 m)) c).arrAt w cfg0.N
/-- When the expert region is entered. -/
abbrev B3 : Dev nD → Valuation τ sig (Elt F) := fun c => StableHlo.after hostOps1 (B2 m c)
/-- When the expert region is left. -/
def B4 (c : Dev nD) : Valuation τ sig (Elt F) :=
  Pipeline.withArrays spec1 c (B3 m c) fun w => (data1 (onTcRefs (B3 m)) c).arrAt w cfg1.N
/-- At the end. -/
abbrev B5 : Dev nD → Valuation τ sig (Elt F) := fun c => StableHlo.after hostOps2 (B4 m c)

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B5_of (c : Dev nD) (r : Ref sig .tc) (h : r ∉ hostOps2_W) : B5 m c (Proc.devRef .tc r) = B4 m c (Proc.devRef .tc r) :=
  StableHlo.after_of_writes_sub hostOps2 _ hostOps2_writes h

/-- Region 0 leaves in each of its arrays what its write-backs leave, -/
theorem B2_arr (c : Dev nD) (w : Fin cfg0.W) :
    B2 m c (Proc.devRef .tc (Pipeline.arrRef spec0 w)) = (data0 (onTcRefs (B1 m)) c).arrAt w cfg0.N := by
  unfold B2; exact Pipeline.withArrays_arr spec0 launch0.win.arr_inj c _ _ w
/-- and every other buffer as it was; -/
theorem B2_other (c : Dev nD) (r : Ref sig .tc) (h : ∀ w, Pipeline.arrRef spec0 w ≠ r) :
    B2 m c (Proc.devRef .tc r) = B1 m c (Proc.devRef .tc r) := by
  unfold B2; exact Pipeline.withArrays_of_ne spec0 c _ _ r h
/-- an input window's array is never written back either. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((data0 _ c).arrAt_in w (h w rfl) _).trans (data0_A _ c w))
  · exact B2_other m c r fun w e => hw ⟨w, e⟩

/-- Region 1 leaves in each of its arrays what its write-backs leave, -/
theorem B4_arr (c : Dev nD) (w : Fin cfg1.W) :
    B4 m c (Proc.devRef .tc (Pipeline.arrRef spec1 w)) = (data1 (onTcRefs (B3 m)) c).arrAt w cfg1.N := by
  unfold B4; exact Pipeline.withArrays_arr spec1 launch1.win.arr_inj c _ _ w
/-- and every other buffer as it was; -/
theorem B4_other (c : Dev nD) (r : Ref sig .tc) (h : ∀ w, Pipeline.arrRef spec1 w ≠ r) :
    B4 m c (Proc.devRef .tc r) = B3 m c (Proc.devRef .tc r) := by
  unfold B4; exact Pipeline.withArrays_of_ne spec1 c _ _ r h
/-- an input window's array is never written back either. -/
theorem B4_of (c : Dev nD) (r : Ref sig .tc) (h : ∀ w : Fin cfg1.W, Pipeline.arrRef spec1 w = r → (cfg1.win w).isOut = false) :
    B4 m c (Proc.devRef .tc r) = B3 m c (Proc.devRef .tc r) := by
  by_cases hw : ∃ w : Fin cfg1.W, Pipeline.arrRef spec1 w = r
  · obtain ⟨w, rfl⟩ := hw
    exact (B4_arr m c w).trans (((data1 _ c).arrAt_in w (h w rfl) _).trans (data1_A _ c w))
  · exact B4_other m c r fun w e => hw ⟨w, e⟩

/-- No stretch and no region changes an argument. -/
theorem B5_argument (c : Dev nD) : ∀ a ∈ arguments, B5 m c (Proc.devRef .tc a) = m ((c : Thread nD τ).loc a) := by
  have h5 : ∀ a ∈ arguments, a ∉ hostOps2_W := ListAll.forall_mem_of_all_decide (by decide +kernel)
  have h3 : ∀ a ∈ arguments, a ∉ hostOps1_W := ListAll.forall_mem_of_all_decide (by decide +kernel)
  have h1 : ∀ a ∈ arguments, a ∉ hostOps0_W := ListAll.forall_mem_of_all_decide (by decide +kernel)
  have h4 : ∀ a ∈ arguments, ∀ w : Fin cfg1.W, Pipeline.arrRef spec1 w = a → (cfg1.win w).isOut = false :=
    ListAll.forall_mem_of_all_decide (by decide +kernel)
  have h2 : ∀ a ∈ arguments, ∀ w : Fin cfg0.W, Pipeline.arrRef spec0 w = a → (cfg0.win w).isOut = false :=
    ListAll.forall_mem_of_all_decide (by decide +kernel)
  exact fun a ha => (B5_of m c a (h5 a ha)).trans <| (B4_of m c a (h4 a ha)).trans <| (B3_of m c a (h3 a ha)).trans <|
    (B2_of m c a (h2 a ha)).trans (B1_of m c a (h1 a ha))

/-! ## The segments -/

/-- Both pipelines' proof data, each at the contents its region is entered with. -/
def datas : (p : Fin 2) → (c : Dev nD) → Dat τ (Elt F) Unit ℕ (UR sig nD τ) ℕ (Pipeline.pin (pcfgs (F := F)) adm p) c
  | ⟨0, _⟩ => fun c => data0 (onTcRefs (B1 m)) c
  | ⟨1, _⟩ => fun c => data1 (onTcRefs (B3 m)) c

/-- No level is assigned: no core owes another anything. -/
abbrev noLevels : GSem nD τ sig → Finset Unit := fun _ => ∅
abbrev levelZero : GSem nD τ sig → Unit → ℕ := fun _ _ => 0

/-- What rides along every segment beside the buffers: the generator register and the core owing nothing. -/
abbrev riding (c : Dev nD) : sProp 𝕄 := iprop((∃ r, prngReg c r) ∗ ∃ W, owes (c : Thread nD τ) (0 : CellTallies nD τ sig Unit) W)

/-- The thread state at a boundary. -/
abbrev state (W : Dev nD → Valuation τ sig (Elt F)) (c : Dev nD) : sProp 𝕄 :=
  iprop(StableHlo.held (c : Thread nD τ) (Pipeline.ucRefs τ sig) (W c) ∗ riding c)

/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

-- the library's lemmas are stated over the pinned configuration
set_option backward.isDefEq.respectTransparency.types false in
/-- The routing region: its arrays are taken out of the unscoped buffers at the entry contents and put back at the exit contents. -/
def region0 : Pipeline.RegionSeg (pcfgs (F := F)) adm (datas m) () defs₀ Variants.none noLevels levelZero 0 where
  win := launch0.win.to₀
  block_pos := launch0.block_pos
  stage_whole := launch0.stage_whole
  K := PEmpty
  osem k := k.elim
  ho := Pipeline.OwnSemFacts.none _
  hbody c := (obligation0 (onTcRefs (B1 m)) c).loose
  hwaits := Pipeline.hwaits_of_owed_zero _ _ _ _ noLevels levelZero 0 fun _ _ => rfl
  pre := state (B1 m)
  post := state (B2 m)
  X c := iprop(∃ r, prngReg c r)
  Y c := iprop(∃ r, prngReg c r)
  Z c := Pipeline.unscopedRest (Ix := Unit) (Name := ℕ) (U := UR sig nD τ) (Lvl := ℕ) spec0 c (onTcRefs (B1 m) c)
  hentry c := by
    rw [Pipeline.ownSems0_none]
    have hsplit := Pipeline.arrays_of_unscopedBufs (p := 0) (pcfgs (F := F)) adm (datas m) launch0.win launch0.arr_whole c
      ((datas m 0 c).share_full fun _ => rfl) (onTcRefs (B1 m) c) (data0_A (onTcRefs (B1 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 0 c).Φ 0 = Pipeline.ΦA spec0 c from rfl]; unfold Pipeline.ΦA
    iintro ⟨Hp, -, Hr⟩
    isplitl [Hr]; · iexact Hr
    iexact Hp
  hout c := by
    rw [Pipeline.ownSems0_none, show (datas m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (datas m) ((datas m 0 c).share_full fun _ => rfl)
      (onTcRefs (B1 m) c) (onTcRefs (B2 m) c) ((datas m 0 c).arrAt · cfg0.N) (fun w => (B2_arr m c w).symm)
      (fun b hb => B2_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration
set_option backward.isDefEq.respectTransparency.types false in
/-- The expert region: its arrays are taken out of the unscoped buffers at the entry contents and put back at the exit contents. -/
def region1 : Pipeline.RegionSeg (pcfgs (F := F)) adm (datas m) () defs₀ Variants.none noLevels levelZero 1 where
  win := launch1.win.to₀
  block_pos := launch1.block_pos
  stage_whole := launch1.stage_whole
  K := PEmpty
  osem k := k.elim
  ho := Pipeline.OwnSemFacts.none _
  hbody c := (obligation1 (onTcRefs (B3 m)) c).loose
  hwaits := Pipeline.hwaits_of_owed_zero _ _ _ _ noLevels levelZero 1 fun _ _ => rfl
  pre := state (B3 m)
  post := state (B4 m)
  X c := iprop(∃ r, prngReg c r)
  Y c := iprop(∃ r, prngReg c r)
  Z c := Pipeline.unscopedRest (Ix := Unit) (Name := ℕ) (U := UR sig nD τ) (Lvl := ℕ) spec1 c (onTcRefs (B3 m) c)
  hentry c := by
    rw [Pipeline.ownSems0_none]
    have hsplit := Pipeline.arrays_of_unscopedBufs (p := 1) (pcfgs (F := F)) adm (datas m) launch1.win launch1.arr_whole c
      ((datas m 1 c).share_full fun _ => rfl) (onTcRefs (B3 m) c) (data1_A (onTcRefs (B3 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (datas m) ((datas m 1 c).share_full fun _ => rfl)
      (onTcRefs (B3 m) c) (onTcRefs (B4 m) c) ((datas m 1 c).arrAt · cfg1.N) (fun w => (B4_arr m c w).symm)
      (fun b hb => B4_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments, in order. -/
abbrev pieces : List (Pipeline.Seg (pcfgs (F := F)) adm (datas m) () defs₀ Variants.none noLevels levelZero) :=
  [ .host (stretch hostOps0 hostOps0_sub hostOps0_fresh (B0 m)),
    .region (region0 m),
    .host (stretch hostOps1 hostOps1_sub hostOps1_fresh (B2 m)),
    .region (region1 m),
    .host (stretch hostOps2 hostOps2_sub hostOps2_fresh (B4 m)) ]

/-- The program is the run of its segments. -/
theorem main_pieces (c : Dev nD) : main (F := F) c = Pipeline.Seg.run (pieces m) := (main_chain c).trans (by chain_rfl)

/-- An unscoped reference is among those the thread state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: every weakly fair execution terminates without a fault, and at the end every unscoped buffer holds the last
    boundary's contents and every semaphore counter is zero. -/
theorem runs : θ_run defs (onTc (τ := τ) (main (F := F))) ⟨m, fun _ => 0, ρ⟩ (fun r =>
      (∀ c : Dev nD, ∀ b ∈ Pipeline.ucRefs τ sig, r.2.mem (((c : Thread nD τ)).1, b) = B5 m c b) ∧ r.2.sem = fun _ => 0) :=
  Pipeline.θ_run_regions_kit_sems (pcfgs (F := F)) adm (datas m) () cellOf_inj emb₁ defs₀ Variants.none noLevels levelZero m ρ main (pieces m)
    (fun c Q => by rw [main_pieces m c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (B0 m))
    (Tₙ := fun c => iprop(StableHlo.held (c : Thread nD τ) (Pipeline.ucRefs τ sig) (B5 m c) ∗ ∃ r, prngReg c r))
    (hch := ⟨fun _ => .rfl, fun _ => .rfl, fun _ => .rfl, fun _ => .rfl, fun _ => .rfl, fun c => by
      dsimp only [Pipeline.Seg.post, stretch, Pipeline.HostSeg.ofOps]
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h hz => ⟨h, funext fun g => hz g (.inr (regions_no_unscoped g.2))⟩)

/-- The arguments at the end of the run are those of the launch. -/
theorem arguments_kept {s : MemSt nD τ sig (Elt F)} (c : Dev nD)
    (h : ∀ b ∈ Pipeline.ucRefs τ sig, s.mem (((c : Thread nD τ)).1, b) = B5 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) :=
  ⟨(h _ (mem_held main_arg0 (by decide))).trans (B5_argument m c main_arg0 (by decide)),
   (h _ (mem_held main_arg1 (by decide))).trans (B5_argument m c main_arg1 (by decide)),
   (h _ (mem_held main_arg2 (by decide))).trans (B5_argument m c main_arg2 (by decide)),
   (h _ (mem_held main_arg3 (by decide))).trans (B5_argument m c main_arg3 (by decide)),
   (h _ (mem_held main_arg4 (by decide))).trans (B5_argument m c main_arg4 (by decide)),
   (h _ (mem_held main_arg5 (by decide))).trans (B5_argument m c main_arg5 (by decide))⟩

/-- The frame: the run keeps the arguments and ends with every semaphore counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => arguments_kept m c (h.1 c), h.2⟩) (runs m ρ)

end Cert.KernelIdeal.Moe

end
-- ==== Proof.KernelIdealBlocks.lean ====
/-
  The expert region's blocks: which rows and which expert every window's block holds at a grid point.
-/
module

public import proofs.«01_k».proof.Proof.KernelIdealBodies
public import Idealize.ShloMosaic.Lib.Pipeline.ValueKit

@[expose] public section

set_option maxRecDepth 16384

noncomputable section

namespace Cert.KernelIdeal.Moe

open Idealize.ShloMosaic Idealize.ShloMosaic.TcCoe
open Cert.KernelIdeal Cert.KernelIdeal.Gen

variable {F : FTy → Type} [FloatOps F] [Named F]
variable (V : (c : Dev nD) → (b : Ref sig .tc) → Buf (Elt F) ((c : Thread nD τ).loc b))

theorem point_lt (t : Fin cfg1.N) : t.val < 32 := lt_of_lt_of_eq t.isLt (show cfg1.N = 32 from N_1)

/-- The array row of row `r` of point `t`'s token block. -/
def rowAt (t : Fin cfg1.N) (r : Fin 512) : Fin 2048 := ⟨512 * (t.val / 8) + r.val, by have := point_lt t; omega⟩

/-- The expert of point `t`. -/
def expertAt (t : Fin cfg1.N) : Fin 8 := ⟨t.val % 8, Nat.mod_lt _ (by decide)⟩

/-- The index maps of the windows at a point. -/
theorem index1 : ∀ t : Fin grid1.N,
    (win1_0.index t 0 = t.val / 8 ∧ win1_0.index t 1 = 0)
      ∧ (win1_1.index t 0 = t.val / 8 ∧ win1_1.index t 1 = 0)
      ∧ (win1_2.index t 0 = t.val % 8 ∧ win1_2.index t 1 = 0 ∧ win1_2.index t 2 = 0)
      ∧ (win1_3.index t 0 = t.val % 8 ∧ win1_3.index t 1 = 0 ∧ win1_3.index t 2 = 0)
      ∧ (win1_4.index t 0 = t.val % 8 ∧ win1_4.index t 1 = 0 ∧ win1_4.index t 2 = 0)
      ∧ (win1_5.index t 0 = t.val % 8 ∧ win1_5.index t 1 = 0 ∧ win1_5.index t 2 = 0)
      ∧ (win1_6.index t 0 = t.val / 8 ∧ win1_6.index t 1 = 0) := by decide +kernel

/-- The expert coordinate of the grid. -/
theorem coord1 (t : Fin cfg1.N) : (grid1.coords t 1).val = (expertAt t).val := by
  have h : (grid1.coords t 1).val = t.val / 1 % 8 := Pipeline.Grid.coords_val t 1 (by decide) rfl
  rw [h, Nat.div_one]; rfl

theorem blk1_0 (c : Dev nD) (t : Fin cfg1.N) (r : Fin 512) (e : Fin 8) :
    blk1 V c 0 t (ix2 r e) = V c main_v1_0 (ix2 (rowAt t r) e) := by
  unfold rowAt
  blk_ext [blk1, index1 t]

theorem blk1_1 (c : Dev nD) (t : Fin cfg1.N) (r : Fin 512) (k : Fin 1024) :
    blk1 V c 1 t (ix2 r k) = V c main_v0 (ix2 (rowAt t r) k) := by
  unfold rowAt
  blk_ext [blk1, index1 t]

theorem blk1_2 (c : Dev nD) (t : Fin cfg1.N) (f : Fin 2048) (k : Fin 1024) :
    blk1 V c 2 t (ix3 0 f k) = V c main_arg2 (ix3 (expertAt t) f k) := by
  unfold expertAt
  blk_ext [blk1, index1 t]

theorem blk1_3 (c : Dev nD) (t : Fin cfg1.N) (f : Fin 2048) :
    blk1 V c 3 t (ix3 0 0 f) = V c main_v2 (ix3 (expertAt t) 0 f) := by
  unfold expertAt
  blk_ext [blk1, index1 t]

theorem blk1_4 (c : Dev nD) (t : Fin cfg1.N) (d : Fin 1024) (f : Fin 2048) :
    blk1 V c 4 t (ix3 0 d f) = V c main_arg4 (ix3 (expertAt t) d f) := by
  unfold expertAt
  blk_ext [blk1, index1 t]

theorem blk1_5 (c : Dev nD) (t : Fin cfg1.N) (d : Fin 1024) :
    blk1 V c 5 t (ix3 0 0 d) = V c main_v3 (ix3 (expertAt t) 0 d) := by
  unfold expertAt
  blk_ext [blk1, index1 t]

/-- The output block's place in its array, both ways. -/
theorem read1_6 (c : Dev nD) (G : Buf (Elt F) ((c : Thread nD τ).loc main_v4)) (t : Fin cfg1.N) (r : Fin 512) (d : Fin 1024) :
    (win1_6.blk t).view.read (Elt F) G (ix2 r d) = G (ix2 (rowAt t r) d) := by
  unfold rowAt
  blk_ext [index1 t]

theorem cover1_6 (i : S2048x1024.Idx) : ∃ t : Fin cfg1.N, (cfg1.win 6).flush t = true ∧ i ∈ ((cfg1.win 6).blk t).view.set := by
  have h0 : (i 0).val < 2048 := (i 0).isLt
  have h1 : (i 1).val < 1024 := (i 1).isLt
  refine ⟨⟨8 * ((i 0).val / 512) + 7, by show _ < grid1.N; rw [N_1]; omega⟩, (flush1_6 _).mpr (by dsimp only; omega), ?_⟩
  generalize ht : (⟨8 * ((i 0).val / 512) + 7, _⟩ : Fin cfg1.N) = t
  have hv : t.val = 8 * ((i 0).val / 512) + 7 := by rw [← ht]
  have e := (index1 t).2.2.2.2.2.2
  mem_blk [e.1, e.2]
  omega

end Cert.KernelIdeal.Moe

end
-- ==== Proof.TopTwo.lean ====
/- The two greatest of eight extended reals, the lower position first on equal values: what they are (`IsTopTwo`), that
   they exist, that a stable descending sort puts them first, and that taking the maximum, the lowest position of it and
   the maximum of the rest (the taken position masked by a value below all others) finds the same two. -/
module

public import Idealize.ShloMosaic.Lib.SortFacts
public import Idealize.ShloMosaic.Lib.SortPrefix
public import Idealize.ShloMosaic.Lib.SortNet.Extract
public import Idealize.ShloMosaic.PureOps.Ideal.Laws

@[expose] public section

noncomputable section

namespace Cert.TopTwo

open Idealize.ShloMosaic

/-- Position `a` holds the greatest value of `p` over `s`, and is the lowest position that does. -/
structure IsBest (p : Fin 8 → EReal) (s : Finset (Fin 8)) (a : Fin 8) : Prop where
  mem : a ∈ s
  le : ∀ i ∈ s, p i ≤ p a
  lt : ∀ i ∈ s, i < a → p i < p a

/-- `a` is the best position of `p`, and `b` the best of the others. -/
structure IsTopTwo (p : Fin 8 → EReal) (a b : Fin 8) : Prop where
  first : IsBest p Finset.univ a
  second : IsBest p (Finset.univ.erase a) b

/-- Over a nonempty set of positions there is a best one. -/
theorem exists_isBest (p : Fin 8 → EReal) (s : Finset (Fin 8)) (hs : s.Nonempty) : ∃ a, IsBest p s a := by
  obtain ⟨c, hc, hmax⟩ := s.exists_max_image p hs
  have hne : (s.filter fun i => p i = p c).Nonempty := ⟨c, Finset.mem_filter.mpr ⟨hc, rfl⟩⟩
  have hm := Finset.mem_filter.mp (Finset.min'_mem _ hne)
  refine ⟨_, hm.1, fun i hi => le_of_le_of_eq (hmax i hi) hm.2.symm,
    fun i hi hlt => lt_of_le_of_ne (le_of_le_of_eq (hmax i hi) hm.2.symm) fun he => ?_⟩
  exact absurd (Finset.min'_le _ i (Finset.mem_filter.mpr ⟨hi, he.trans hm.2⟩)) (not_le.mpr hlt)

/-- Eight values have two greatest. -/
theorem exists_isTopTwo (p : Fin 8 → EReal) : ∃ a b, IsTopTwo p a b := by
  obtain ⟨a, ha⟩ := exists_isBest p Finset.univ ⟨0, Finset.mem_univ 0⟩
  have hne : (Finset.univ.erase a).Nonempty := by
    rw [← Finset.card_pos, Finset.card_erase_of_mem (Finset.mem_univ a), Finset.card_univ, Fintype.card_fin]; decide
  obtain ⟨b, hb⟩ := exists_isBest p (Finset.univ.erase a) hne
  exact ⟨a, b, ha, hb⟩

theorem IsTopTwo.ne {p : Fin 8 → EReal} {a b : Fin 8} (h : IsTopTwo p a b) : b ≠ a := Finset.ne_of_mem_erase h.second.mem

/-! ### The stable sort -/

/-- An insertion sort of an ascending list reads its comparison only with the later position on the left. -/
theorem stableSort_congr_of_ascending {n : ℕ} (R R' : Fin n → Fin n → Bool) (h : ∀ a b, a < b → R b a = R' b a) :
    ∀ l : List (Fin n), l.Pairwise (· < ·) → stableSort R l = stableSort R' l
  | [], _ => rfl
  | a :: l, hl => by
    have hl' := List.pairwise_cons.mp hl
    unfold stableSort
    rw [stableSort_congr_of_ascending R R' h l hl'.2]
    exact insertBefore_congr R R' a _ fun b hb => h a b (hl'.1 b ((perm_stableSort R' l).mem_iff.mp hb))

/-- So the sorted positions are those of any comparison agreeing there. -/
theorem sortedFrom_congr_of_ascending {n : ℕ} (R R' : Fin n → Fin n → Bool) (h : ∀ a b, a < b → R b a = R' b a) :
    sortedFrom R = sortedFrom R' := by
  have e : sortPositions n R = sortPositions n R' :=
    stableSort_congr_of_ascending R R' h _ (List.pairwise_lt_finRange n)
  funext k
  unfold sortedFrom
  exact List.getElem_of_eq e _

/-- A stable descending sort puts the two greatest first. -/
theorem sortedFrom_topTwo (p : Fin 8 → EReal) (a b : Fin 8) (h : IsTopTwo p a b) (i : Fin 2) :
    sortedFrom (fun k k' => FloatOps.cmpfTotal (F := Ideal) (φ := .f32) .gt (p k) (p k') == 1#1) (i.castLE (by decide))
      = (![a, b] : Fin 2 → Fin 8) i := by
  have hcmp : ∀ x y : EReal, (FloatOps.cmpfTotal (F := Ideal) (φ := .f32) .gt x y == 1#1) = decide (y < x) := by
    intro x y
    show (BitVec.ofBool (decide (y < x)) == 1#1) = decide (y < x)
    cases decide (y < x) <;> rfl
  rw [sortedFrom_congr_of_ascending _
    (fun k k' => decide (p k' < p k) || (decide (p k = p k') && decide (k < k')))
    (fun x y hxy => by rw [hcmp, decide_eq_false (not_lt.mpr (le_of_lt hxy)), Bool.and_false, Bool.or_false])]
  have hB := StrictTotalBefore.of_key_then_position (fun x y : EReal => decide (y < x)) p
    (fun x => decide_eq_false (lt_irrefl x))
    (fun x y z hxy hyz => decide_eq_true (lt_trans (of_decide_eq_true hyz) (of_decide_eq_true hxy)))
    (fun x y => by
      rcases lt_trichotomy x y with h | h | h
      · exact .inr (.inr (decide_eq_true h))
      · exact .inr (.inl h)
      · exact .inl (decide_eq_true h))
  have hafter : ∀ i j : Fin 8, p i ≤ p j → (i < j → p i < p j) →
      (decide (p j < p i) || (decide (p i = p j) && decide (i < j))) = false := by
    intro i j hle hlt
    rw [decide_eq_false (not_lt.mpr hle), Bool.false_or, Bool.and_eq_false_iff]
    by_cases hij : i < j
    · exact .inl (decide_eq_false (ne_of_lt (hlt hij)))
    · exact .inr (decide_eq_false hij)
  refine hB.sortedFrom_eq_of_prefix (by decide) ![a, b] ?_ ?_ ?_ i
  · intro i j hij
    fin_cases i <;> fin_cases j
    · rfl
    · exact absurd hij h.ne.symm
    · exact absurd hij h.ne
    · rfl
  · intro i j hij
    fin_cases i <;> fin_cases j
    · exact absurd hij (lt_irrefl _)
    · exact hafter b a (h.first.le b (Finset.mem_univ b)) (h.first.lt b (Finset.mem_univ b))
    · exact absurd hij (by decide)
    · exact absurd hij (lt_irrefl _)
  · intro i q hq
    have hqa : q ≠ a := fun e => hq 0 e.symm
    fin_cases i
    · exact hafter q a (h.first.le q (Finset.mem_univ q)) (h.first.lt q (Finset.mem_univ q))
    · have hm := Finset.mem_erase.mpr ⟨hqa, Finset.mem_univ q⟩
      exact hafter q b (h.second.le q hm) (h.second.lt q hm)

/-! ### The maximum and its lowest position -/

/-- The maximum is the best position's value. -/
theorem IsBest.fold_max {p : Fin 8 → EReal} {a : Fin 8} (h : IsBest p Finset.univ a) :
    Finset.univ.fold max ⊥ p = p a :=
  le_antisymm (Finset.fold_max_le _ |>.mpr ⟨bot_le, fun i hi => h.le i hi⟩)
    (Finset.le_fold_max _ |>.mpr (.inr ⟨a, h.mem, le_refl _⟩))

/-- The least of the words naming the positions that hold the maximum names the best position. -/
theorem IsBest.fold_min {p : Fin 8 → EReal} {a : Fin 8} (h : IsBest p Finset.univ a) :
    (Finset.univ.fold IntOp.minsi 2147483647#32
      fun k : Fin 8 => if p k = p a then BitVec.ofNat 32 k.val else 8#32) = BitVec.ofNat 32 a.val := by
  have hsmall : ∀ n : ℕ, n < 2 ^ 31 → (BitVec.ofNat 32 n).toInt = n := fun n hn => by
    rw [BitVec.toInt_ofNat', Int.bmod_eq_of_le] <;> omega
  have hread : (Finset.univ.fold IntOp.minsi 2147483647#32
      fun k : Fin 8 => if p k = p a then BitVec.ofNat 32 k.val else 8#32).toInt
      = Finset.univ.fold min (2147483647 : ℤ) fun k : Fin 8 => if p k = p a then (k.val : ℤ) else 8 := by
    refine (Finset.fold_hom (op := IntOp.minsi (w := 32)) (op' := min) (m := BitVec.toInt) SortNet.toInt_minsi).symm.trans ?_
    refine congrArg₂ (fun x f => Finset.univ.fold min x f) rfl (funext fun k => ?_)
    by_cases hk : p k = p a
    · rw [if_pos hk, if_pos hk, hsmall _ (by omega)]
    · rw [if_neg hk, if_neg hk]; rfl
  refine BitVec.eq_of_toInt_eq (hread.trans ?_)
  rw [hsmall _ (by omega)]
  refine le_antisymm (Finset.fold_min_le _ |>.mpr (.inr ⟨a, h.mem, by rw [if_pos rfl]⟩))
    (Finset.le_fold_min _ |>.mpr ⟨by omega, fun i hi => ?_⟩)
  by_cases hi' : p i = p a
  · rw [if_pos hi']
    have : ¬ i < a := fun hlt => absurd hi' (ne_of_lt (h.lt i hi hlt))
    exact Int.ofNat_le.mpr (not_lt.mp this)
  · rw [if_neg hi']; omega

/-- With the first position masked below every value, the second is the best. -/
theorem IsTopTwo.masked {p : Fin 8 → EReal} {a b : Fin 8} (h : IsTopTwo p a b) (c : EReal) (hc : ∀ i, c < p i) :
    IsBest (fun i => if i = a then c else p i) Finset.univ b where
  mem := Finset.mem_univ b
  le i _ := by
    show (if i = a then c else p i) ≤ (if b = a then c else p b)
    rw [if_neg h.ne]
    by_cases hi : i = a
    · rw [if_pos hi]; exact le_of_lt (hc b)
    · rw [if_neg hi]; exact h.second.le i (Finset.mem_erase.mpr ⟨hi, Finset.mem_univ i⟩)
  lt i _ hlt := by
    show (if i = a then c else p i) < (if b = a then c else p b)
    rw [if_neg h.ne]
    by_cases hi : i = a
    · rw [if_pos hi]; exact hc b
    · rw [if_neg hi]; exact h.second.lt i (Finset.mem_erase.mpr ⟨hi, Finset.mem_univ i⟩) hlt

end Cert.TopTwo

end
-- ==== Proof.Route.lean ====
/-
  The routing of one token as plain mathematics on its eight logits: the softmax, the two greatest probabilities'
  combined weights, how often an expert is hit, and the balance loss over all tokens. Both programs are read
  as these functions.
-/
module

public import proofs.«01_k».proof.Proof.TopTwo

@[expose] public section

noncomputable section

namespace Cert.Route

open Idealize.ShloMosaic Cert.TopTwo

/-! ### Softmax -/

/-- The greatest of a token's logits. -/
def rowMax (l : Fin 8 → EReal) : EReal := Finset.univ.fold max ⊥ l

/-- The softmax of a token's logits. -/
def prob (l : Fin 8 → EReal) (e : Fin 8) : EReal :=
  Ideal.div (Ideal.exp (l e - rowMax l)) (∑ k, Ideal.exp (l k - rowMax l))

/-- Token `n`'s logit for expert `e`: the product of its row with the expert's router row. -/
def logit (x : Fin 2048 → Fin 1024 → EReal) (w : Fin 8 → Fin 1024 → EReal) (n : Fin 2048) (e : Fin 8) : EReal :=
  ∑ k, x n k * w e k

/-- A number that is neither infinity. -/
def Real' (y : EReal) : Prop := ∃ r : ℝ, y = r

theorem Real'.mul {x y : EReal} : Real' x → Real' y → Real' (x * y)
  | ⟨r, hr⟩, ⟨s, hs⟩ => ⟨r * s, by rw [hr, hs, EReal.coe_mul]⟩

theorem Real'.sum {ι : Type} (s : Finset ι) {f : ι → EReal} (h : ∀ i, Real' (f i)) : Real' (∑ i ∈ s, f i) :=
  Finset.sum_induction f Real' (fun _ _ ⟨r, hr⟩ ⟨t, ht⟩ => ⟨r + t, by rw [hr, ht, EReal.coe_add]⟩) ⟨0, rfl⟩
    fun i _ => h i

/-- Of finite tokens and finite router weights every logit is finite. -/
theorem logit_real {x : Fin 2048 → Fin 1024 → EReal} {w : Fin 8 → Fin 1024 → EReal} (hx : ∀ n k, Real' (x n k))
    (hw : ∀ e k, Real' (w e k)) (n : Fin 2048) (e : Fin 8) : Real' (logit x w n e) :=
  Real'.sum _ fun k => (hx n k).mul (hw e k)

theorem exp_nonneg (x : EReal) : 0 ≤ Ideal.exp x := by
  induction x with
  | bot => exact le_refl _
  | top => exact le_top
  | coe r => exact EReal.coe_nonneg.mpr (Real.exp_pos r).le

/-- Of finite logits no probability is negative. -/
theorem prob_nonneg {l : Fin 8 → EReal} (hl : ∀ e, Real' (l e)) (e : Fin 8) : 0 ≤ prob l e := by
  obtain ⟨a, ha⟩ := exists_isBest l Finset.univ Finset.univ_nonempty
  have hmax : rowMax l = l a := ha.fold_max
  have hone : Ideal.exp (l a - rowMax l) = 1 := by
    obtain ⟨r, hr⟩ := hl a
    rw [hmax, hr, ← EReal.coe_sub, sub_self]
    exact congrArg (fun t : ℝ => (t : EReal)) Real.exp_zero
  have hsum : (0 : EReal) < ∑ k, Ideal.exp (l k - rowMax l) :=
    lt_of_lt_of_le (hone ▸ zero_lt_one) (Finset.single_le_sum (f := fun k => Ideal.exp (l k - rowMax l))
      (fun k _ => exp_nonneg _) (Finset.mem_univ a))
  unfold prob Ideal.div
  rw [if_neg hsum.ne']
  exact mul_nonneg (exp_nonneg _) (EReal.inv_nonneg_of_nonneg hsum.le)

/-! ### Bits as numbers -/

theorem bit_cases (b : BitVec 1) : b = 0#1 ∨ b = 1#1 := by revert b; decide

/-- A bit read as an unsigned number is `1` or `0`. -/
theorem uitofp_bit (b : BitVec 1) : FloatOps.uitofp (F := Ideal) .f32 b = if b = 1#1 then (1 : EReal) else 0 := by
  rcases bit_cases b with rfl | rfl
  · rw [if_neg (by decide)]; show ((((0#1).toNat : ℕ) : ℝ) : EReal) = 0; simp
  · rw [if_pos rfl]; show ((((1#1).toNat : ℕ) : ℝ) : EReal) = 1; simp

/-- A bit widened to a word and read as a signed number is `1` or `0`. -/
theorem sitofp_bit (b : BitVec 1) :
    FloatOps.sitofp (F := Ideal) .f32 (BitVec.setWidth 32 b) = if b = 1#1 then (1 : EReal) else 0 := by
  rcases bit_cases b with rfl | rfl
  · rw [if_neg (by decide)]; show ((((BitVec.setWidth 32 0#1).toInt : ℤ) : ℝ) : EReal) = 0; simp
  · rw [if_pos rfl]; show ((((BitVec.setWidth 32 1#1).toInt : ℤ) : ℝ) : EReal) = 1
    rw [show (BitVec.setWidth 32 1#1).toInt = 1 by decide]; simp

/-- The words naming two experts are compared as the experts. -/
theorem cmpi_expert (e a : Fin 8) :
    IntOp.cmpi .eq (BitVec.ofNat 32 e.val) (BitVec.ofNat 32 a.val) = BitVec.ofBool (decide (e = a)) := by
  revert e a; decide

/-- `1` at the expert `a`, `0` at the others. -/
def hot (a e : Fin 8) : EReal := if e = a then 1 else 0

theorem ofBits_bot : Ideal.ofBits .f32 0xFF800000#32 = ⊥ := by simp [Ideal.ofBits, Ideal.ieee]

theorem ofBits_neg_one : Ideal.ofBits .f32 0xBF800000#32 = ((-(1 : ℝ) : ℝ) : EReal) := by
  simp [Ideal.ofBits, Ideal.ieee, -EReal.coe_mul, -EReal.coe_neg]; norm_num

/-- The mask a chosen probability is replaced by is below every probability. -/
theorem mask_lt {x : EReal} (hx : 0 ≤ x) : Ideal.ofBits .f32 0xBF800000#32 < x :=
  lt_of_lt_of_le (by rw [ofBits_neg_one]; exact EReal.coe_neg'.mpr (by norm_num)) hx

/-! ### Combined weights -/

/-- Whether the second expert is kept: the first one's probability is below nine tenths (rounded). -/
def Kept (p : Fin 8 → EReal) (a : Fin 8) : Prop := p a < Ideal.ofBits .f32 0x3F666666#32

open Classical in
/-- What the weights are divided by: the sum of the kept probabilities, at least a small constant. -/
def denom (p : Fin 8 → EReal) (a b : Fin 8) : EReal :=
  max (p a + if Kept p a then p b else 0) (Ideal.ofBits .f32 0x3089705F#32)

open Classical in
/-- The weight a token gives expert `e` when `a` and `b` are its two best. -/
def weight (p : Fin 8 → EReal) (a b e : Fin 8) : EReal :=
  Ideal.div (p a) (denom p a b) * hot a e + if Kept p a then Ideal.div (p b) (denom p a b) * hot b e else 0

open Classical in
/-- How often a token with the two best experts `a` and `b` is sent to expert `e`. -/
def hits (p : Fin 8 → EReal) (a b e : Fin 8) : EReal := hot a e + if Kept p a then hot b e else 0

/-- The balance loss: over the experts, the share of the hits times the mean probability, scaled twice. -/
def balance (p : Fin 2048 → Fin 8 → EReal) (a b : Fin 2048 → Fin 8) : EReal :=
  Ideal.ofBits .f32 0x3C23D70A#32 * (Ideal.ofBits .f32 0x41000000#32 *
    ∑ e, Ideal.div (∑ n, hits (p n) (a n) (b n) e) (max (∑ e, ∑ n, hits (p n) (a n) (b n) e) 1)
      * Ideal.div (∑ n, p n e) (Ideal.ofBits .f32 0x45000000#32))

end Cert.Route

end
-- ==== Proof.Expert.lean ====
/-
  One expert's network on one token as plain mathematics: a linear map, the exact gelu, a second linear map.
-/
module

public import proofs.«01_k».proof.Proof.Route
public import Idealize.ShloMosaic.PureOps.Ideal.Laws

@[expose] public section

noncomputable section

namespace Cert.Route

open Idealize.ShloMosaic

/-- The reciprocal of the root of two. -/
def invSqrtTwo : EReal := (((Real.sqrt 2)⁻¹ : ℝ) : EReal)

/-- The gelu: half the argument times one plus the error function of the argument over the root of two. -/
def gelu (h : EReal) : EReal := Ideal.ofBits .f32 0x3F000000#32 * h * (1 + Ideal.erf (h * invSqrtTwo))

/-- The word `0x40000000` is the number two. -/
theorem ofBits_two : Ideal.ofBits .f32 0x40000000#32 = ((2 : ℝ) : EReal) := by
  simp [Ideal.ofBits, Ideal.ieee, -EReal.coe_mul]; norm_num

/-- Dividing by the root of two is multiplying by its reciprocal, at infinite arguments too. -/
theorem div_sqrt_two (x : EReal) : Ideal.div x (Ideal.sqrt (Ideal.ofBits .f32 0x40000000#32)) = x * invSqrtTwo := by
  rw [ofBits_two, Ideal.sqrt_coe, if_neg (by norm_num), Ideal.div_coe (Real.sqrt_pos.mpr (by norm_num)).ne', one_div]
  rfl

/-- The same gelu with the complementary error function of the negated argument, and with the quotient. -/
theorem gelu_erfc (h : EReal) :
    Ideal.ofBits .f32 0x3F000000#32 * h * Ideal.erfc (Ideal.div (-h) (Ideal.sqrt (Ideal.ofBits .f32 0x40000000#32))) = gelu h := by
  unfold gelu
  rw [div_sqrt_two, EReal.neg_mul, Ideal.erfc_neg]

/-- Output coordinate `d` of an expert with weights `W1`, `b1`, `W2`, `b2` on a token's row. -/
def network (row : Fin 1024 → EReal) (W1 : Fin 2048 → Fin 1024 → EReal) (b1 : Fin 2048 → EReal)
    (W2 : Fin 1024 → Fin 2048 → EReal) (b2 : Fin 1024 → EReal) (d : Fin 1024) : EReal :=
  ∑ f, gelu (∑ k, row k * W1 f k + b1 f) * W2 d f + b2 d

end Cert.Route

end
-- ==== Proof.KernelIdealExpert.lean ====
/-
  The expert region's payloads read at an index: one expert's output on a token block, scaled by the tokens' weights.
-/
module

public import proofs.«01_k».proof.Proof.KernelIdealBodies
public import proofs.«01_k».proof.Proof.Expert
public import Idealize.ShloMosaic.Lib.Pointwise

@[expose] public section

set_option maxRecDepth 16384

noncomputable section

namespace Cert.KernelIdeal.Moe

open Cert.KernelIdeal Cert.KernelIdeal.Gen Idealize.ShloMosaic Cert.Route

/-- A row of weights masked to one expert sums to that expert's weight. -/
theorem sum_masked (g : Fin 8 → EReal) (e : Fin 8) :
    ∑ l : Fin 8, g l * FloatOps.sitofp (F := Ideal) .f32
      (BitVec.setWidth 32 (IntOp.cmpi .eq (BitVec.ofNat 32 l.val) (BitVec.ofNat 32 e.val))) = g e := by
  rw [Finset.sum_eq_single e]
  · rw [sitofp_bit, cmpi_expert, decide_eq_true rfl]; exact mul_one _
  · intro l _ hl
    rw [sitofp_bit, cmpi_expert, decide_eq_false hl]; exact mul_zero _
  · exact fun h => absurd (Finset.mem_univ e) h

/-- The kernel's named constant is the reciprocal of the root of two. -/
theorem named_invSqrtTwo : Named.named (F := Ideal) κ "inv_sqrt_two" (φ := .f32) 0x3F3504F3#32 = invSqrtTwo :=
  IdealRules.named_const.ideal_named_scalar _ _ _ _ rfl

/-- The contribution payload: the expert's output times the token's weight of the expert. -/
theorem k1_pay2_apply (i : grid1.Coords) (v0 : FVec Ideal S512x1024 .f32) (v2 : FVec Ideal S1x2048x1024 .f32) (v5 : FVec Ideal S1x1x2048 .f32)
    (v17 : FVec Ideal S1x1024x2048 .f32) (v20 : FVec Ideal S1x1x1024 .f32) (v25 : FVec Ideal S512x8 .f32) (e : Fin 8) (he : (i 1).val = e.val)
    (r : Fin 512) (d : Fin 1024) :
    k1_pay2 (F := Ideal) i v0 v2 v5 v17 v20 v25 (ix2 r d)
      = network (fun k => v0 (ix2 r k)) (fun f k => v2 (ix3 0 f k)) (fun f => v5 (ix3 0 0 f)) (fun d f => v17 (ix3 0 d f))
          (fun d => v20 (ix3 0 0 d)) d * v25 (ix2 r e) := by
  pointwise [k1_pay2]
  rw [he, sum_masked (fun l => v25 (ix2 r l)) e, named_invSqrtTwo]
  rfl

/-- The accumulating payload adds the contribution to what the block held. -/
theorem k1_pay1_apply (o y : FVec Ideal S512x1024 .f32) (r : Fin 512) (d : Fin 1024) :
    k1_pay1 (F := Ideal) o y (ix2 r d) = y (ix2 r d) + o (ix2 r d) := by
  pointwise [k1_pay1]

end Cert.KernelIdeal.Moe

end
-- ==== Proof.KernelIdealArrays.lean ====
/-
  What the two regions leave in their arrays: the routing region the weights and the loss of its two input arrays, the
  expert region the sum over the eight experts of each expert's scaled output.
-/
module

public import proofs.«01_k».proof.Proof.KernelIdealBlocks
public import proofs.«01_k».proof.Proof.KernelIdealExpert

@[expose] public section

set_option maxRecDepth 16384

noncomputable section

namespace Cert.KernelIdeal.Moe

open Idealize.ShloMosaic Idealize.ShloMosaic.TcCoe
open Cert.KernelIdeal Cert.KernelIdeal.Gen Cert.Route

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Whole-buffer loads -/

theorem ld_rX (x : Vec Ideal S2048x1024 .f32) : View.ld x rX = x :=
  View.ld_unit_zero (Val := Elt Ideal) zeros2 _ x
theorem ld_rRw (x : Vec Ideal S8x1024 .f32) : View.ld x rRw = x :=
  View.ld_unit_zero (Val := Elt Ideal) zeros2 _ x
theorem ld_rTok (x : Vec Ideal S512x1024 .f32) : View.ld x rTok = x :=
  View.ld_unit_zero (Val := Elt Ideal) zeros2 _ x
theorem ld_rW1 (x : Vec Ideal S1x2048x1024 .f32) : View.ld x rW1 = x :=
  View.ld_unit_zero (Val := Elt Ideal) zeros3 _ x
theorem ld_rB1 (x : Vec Ideal S1x1x2048 .f32) : View.ld x rB1 = x :=
  View.ld_unit_zero (Val := Elt Ideal) zeros3 _ x
theorem ld_rW2 (x : Vec Ideal S1x1024x2048 .f32) : View.ld x rW2 = x :=
  View.ld_unit_zero (Val := Elt Ideal) zeros3 _ x
theorem ld_rB2 (x : Vec Ideal S1x1x1024 .f32) : View.ld x rB2 = x :=
  View.ld_unit_zero (Val := Elt Ideal) zeros3 _ x
theorem ld_rRow (x : Vec Ideal S512x8 .f32) : View.ld x rRow = x :=
  View.ld_unit_zero (Val := Elt Ideal) zeros2 _ x

/-! ## The expert region -/

/-- One expert's output on one token, scaled by the token's weight of the expert, from whole arrays. -/
def scaled (we : FVec Ideal S2048x8 .f32) (x : FVec Ideal S2048x1024 .f32) (W1 : FVec Ideal S8x2048x1024 .f32)
    (b1 : FVec Ideal S8x1x2048 .f32) (W2 : FVec Ideal S8x1024x2048 .f32) (b2 : FVec Ideal S8x1x1024 .f32)
    (n : Fin 2048) (d : Fin 1024) (e : Fin 8) : EReal :=
  network (fun k => x (ix2 n k)) (fun f k => W1 (ix3 e f k)) (fun f => b1 (ix3 e 0 f)) (fun d f => W2 (ix3 e d f))
    (fun d => b2 (ix3 e 0 d)) d * we (ix2 n e)

variable (V : (c : Dev nD) → (b : Ref sig .tc) → Buf (Elt Ideal) ((c : Thread nD τ).loc b))

/-- `scaled` at the region's entry contents. -/
def term (c : Dev nD) (n : Fin 2048) (d : Fin 1024) (e : Fin 8) : EReal :=
  scaled (V c main_v1_0) (V c main_v0) (V c main_arg2) (V c main_v2) (V c main_arg4) (V c main_v3) n d e

/-- A point's contribution. -/
theorem contribution_apply (c : Dev nD) (t : Fin cfg1.N) (r : Fin 512) (d : Fin 1024) :
    contribution (F := Ideal) (grid1.coords t) (blk1 V c 0 t) (blk1 V c 1 t) (blk1 V c 2 t) (blk1 V c 3 t) (blk1 V c 4 t)
      (blk1 V c 5 t) (ix2 r d) = term V c (rowAt t r) d (expertAt t) := by
  unfold contribution
  rw [ld_rTok, ld_rW1, ld_rB1, ld_rW2, ld_rB2, ld_rRow, k1_pay2_apply _ _ _ _ _ _ _ (expertAt t) (coord1 t)]
  unfold term scaled
  have h0 := blk1_0 V c t r (expertAt t)
  have h1 := fun k => blk1_1 V c t r k
  have h2 := fun f k => blk1_2 V c t f k
  have h3 := fun f => blk1_3 V c t f
  have h4 := fun d f => blk1_4 V c t d f
  have h5 := fun d => blk1_5 V c t d
  simp only [h0, h1, h2, h3, h4, h5]

/-- What the output block holds after a first expert, -/
theorem leftFirst_apply (c : Dev nD) (t : Fin cfg1.N) (r : Fin 512) (d : Fin 1024) :
    leftFirst (F := Ideal) (grid1.coords t) (blk1 V c 0 t) (blk1 V c 1 t) (blk1 V c 2 t) (blk1 V c 3 t) (blk1 V c 4 t)
      (blk1 V c 5 t) (ix2 r d) = term V c (rowAt t r) d (expertAt t) := by
  rw [← contribution_apply]
  unfold leftFirst
  rw [View.canon_unit_zero zeros2]

/-- and after a later one. -/
theorem leftLater_apply (c : Dev nD) (t : Fin cfg1.N) (y : FVec Ideal S512x1024 .f32) (r : Fin 512) (d : Fin 1024) :
    leftLater (F := Ideal) (grid1.coords t) (blk1 V c 0 t) (blk1 V c 1 t) (blk1 V c 2 t) (blk1 V c 3 t) (blk1 V c 4 t)
      (blk1 V c 5 t) y (ix2 r d) = y (ix2 r d) + term V c (rowAt t r) d (expertAt t) := by
  rw [← contribution_apply]
  unfold leftLater
  rw [View.canon_unit_zero zeros2, ld_rTok]
  exact k1_pay1_apply _ y r d

/-- The experts up to a point's, one more than those up to the point before. -/
theorem experts_upto (n : ℕ) (h : ¬ n % 8 = 0) :
    (Finset.univ.filter fun e : Fin 8 => e.val ≤ n % 8)
      = insert (⟨n % 8, Nat.mod_lt _ (by decide)⟩ : Fin 8) (Finset.univ.filter fun e : Fin 8 => e.val ≤ (n - 1) % 8) := by
  ext e
  simp only [Finset.mem_filter, Finset.mem_univ, true_and, Finset.mem_insert, Fin.ext_iff]
  have := e.isLt
  omega

/-- The running sum: after a point the output block holds the sum over the experts so far. -/
theorem running_apply (c : Dev nD) : ∀ (n : ℕ) (h : n < cfg1.N) (r : Fin 512) (d : Fin 1024),
    running (F := Ideal) V c n h (ix2 r d)
      = ∑ e ∈ Finset.univ.filter (fun e : Fin 8 => e.val ≤ n % 8), term V c (rowAt ⟨n, h⟩ r) d e := by
  intro n
  induction n using Nat.strong_induction_on with
  | _ n ih =>
    intro h r d
    by_cases h0 : n % 8 = 0
    · rw [running_first V c ⟨n, h⟩ h0, leftFirst_apply]
      have hs : (Finset.univ.filter fun e : Fin 8 => e.val ≤ n % 8) = {expertAt ⟨n, h⟩} := by
        ext e
        simp only [Finset.mem_filter, Finset.mem_univ, true_and, Finset.mem_singleton, Fin.ext_iff, expertAt]
        omega
      rw [hs, Finset.sum_singleton]
    · rw [running_later V c ⟨n, h⟩ h0, leftLater_apply, experts_upto n h0, Finset.sum_insert, add_comm]
      · have hlt : n - 1 < n := by omega
        have hrow : rowAt ⟨n - 1, Nat.lt_of_le_of_lt (Nat.sub_le _ _) h⟩ r = rowAt ⟨n, h⟩ r := by
          unfold rowAt; apply Fin.ext; dsimp only; omega
        rw [← hrow]
        congr 1
        exact ih (n - 1) hlt _ r d
      · simp only [Finset.mem_filter, Finset.mem_univ, true_and]
        omega

/-- The expert region's result array. -/
def combined (c : Dev nD) : FVec Ideal S2048x1024 .f32 := fun i => ∑ e, term V c (i 0) (i 1) e

/-- What is written back is the block of it. -/
theorem flushed1_6 (c : Dev nD) (t : Fin cfg1.N) (hf : (cfg1.win 6).flush t = true) :
    (data1 (F := Ideal) V c).flushed 6 t = ((cfg1.win 6).blk t).view.read (Elt Ideal) (combined V c) := by
  have h7 : t.val % 8 = 7 := (flush1_6 t).mp hf
  show (cfg1.win 6).cut (grid1.coords t) ((data1 V c).after 6 t) = _
  rw [data1_after_6]
  funext j
  idx_vars j
  refine Eq.trans ?_ (read1_6 (F := Ideal) c (combined V c) t j0 j1).symm
  refine (running_apply V c t.val t.isLt j0 j1).trans ?_
  have hs : (Finset.univ.filter fun e : Fin 8 => e.val ≤ t.val % 8) = Finset.univ := by
    rw [h7]; decide
  rw [hs]
  rfl

/-- The expert region leaves the sum over the experts in its result array. -/
theorem final1_6 (c : Dev nD) : (data1 (F := Ideal) V c).arrAt 6 cfg1.N = combined V c :=
  (data1 V c).arrAt_eq_of_cover 6 (combined V c) (flushed1_6 V c) cover1_6

/-! ## The routing region -/

/-- The index maps of its windows at its one point. -/
theorem index0 : ∀ t : Fin grid0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = 0) := by decide +kernel

theorem blk0_0 (c : Dev nD) (t : Fin cfg0.N) : blk0 V c 0 t = V c main_v0 := by
  funext j
  idx_vars j
  blk_ext [blk0, index0 t]
theorem blk0_1 (c : Dev nD) (t : Fin cfg0.N) : blk0 V c 1 t = V c main_arg1 := by
  funext j
  idx_vars j
  blk_ext [blk0, index0 t]

/-- Its outputs' blocks are their whole arrays. -/
theorem read0_2 (c : Dev nD) (G : Buf (Elt Ideal) ((c : Thread nD τ).loc main_v1_0)) (t : Fin cfg0.N) :
    (win0_2.blk t).view.read (Elt Ideal) G = G := by
  funext j
  idx_vars j
  blk_ext [index0 t]
theorem read0_3 (c : Dev nD) (G : Buf (Elt Ideal) ((c : Thread nD τ).loc main_v1_1)) (t : Fin cfg0.N) :
    (win0_3.blk t).view.read (Elt Ideal) G = G := by
  funext j
  idx_vars j
  blk_ext [index0 t]
theorem cover0_2 (t : Fin cfg0.N) (i : S2048x8.Idx) : i ∈ ((cfg0.win 2).blk t).view.set := by
  have h0 : (i 0).val < 2048 := (i 0).isLt
  have h1 : (i 1).val < 8 := (i 1).isLt
  have e := (index0 t).2.2.1
  mem_blk [e.1, e.2]
  omega
theorem cover0_3 (t : Fin cfg0.N) (i : S1x1.Idx) : i ∈ ((cfg0.win 3).blk t).view.set := by
  have h0 : (i 0).val < 1 := (i 0).isLt
  have h1 : (i 1).val < 1 := (i 1).isLt
  have e := (index0 t).2.2.2
  mem_blk [e.1, e.2]
  omega

/-- The routing region leaves the weights -/
theorem final0_2 (c : Dev nD) : (data0 (F := Ideal) V c).arrAt 2 cfg0.N = weightsOf (F := Ideal) (V c main_v0) (V c main_arg1) := by
  refine (data0 V c).arrAt_eq_of_cover 2 _ (fun t hf => ?_) fun i => ⟨⟨0, by decide⟩, by decide +kernel, cover0_2 _ i⟩
  show (cfg0.win 2).cut (grid0.coords t) ((data0 V c).after 2 t) = _
  rw [data0_after_2, blk0_0, blk0_1]
  unfold left0_2
  rw [View.canon_unit_zero zeros2, ld_rX, ld_rRw]
  exact (read0_2 c _ t).symm

/-- and the loss. -/
theorem final0_3 (c : Dev nD) : (data0 (F := Ideal) V c).arrAt 3 cfg0.N = auxOf (F := Ideal) (V c main_v0) (V c main_arg1) := by
  refine (data0 V c).arrAt_eq_of_cover 3 _ (fun t hf => ?_) fun i => ⟨⟨0, by decide⟩, by decide +kernel, cover0_3 _ i⟩
  show (cfg0.win 3).cut (grid0.coords t) ((data0 V c).after 3 t) = _
  rw [data0_after_3, blk0_0, blk0_1]
  unfold left0_3
  rw [View.canon_unit_zero zeros2, ld_rX, ld_rRw]
  exact (read0_3 c _ t).symm

end Cert.KernelIdeal.Moe

end
-- ==== Proof.KernelIdealResult.lean ====
/-
  The kernel program's two results at the end of its run, in terms of the arguments at launch.
-/
module

public import proofs.«01_k».proof.Proof.KernelIdealRun
public import proofs.«01_k».proof.Proof.KernelIdealArrays
public import Idealize.ShloMosaic.Lib.StableHlo.ReadAt

@[expose] public section

set_option maxRecDepth 16384

noncomputable section

namespace Cert.KernelIdeal.Moe

open Idealize.ShloMosaic Idealize.ShloMosaic.TcCoe
open Cert.KernelIdeal Cert.KernelIdeal.Gen Cert.Route

/-! ## The host's reshapes -/

section Reshapes
variable (W : Valuation τ sig (Elt Ideal))

theorem reshaped_tokens (n : Fin 2048) (k : Fin 1024) :
    StableHlo.after hostOps0 W (Proc.devRef .tc main_v0) (ix2 n k) = W (Proc.devRef .tc main_arg0) (ix3 0 n k) := by
  after_reads_at
theorem reshaped_b1 (e : Fin 8) (f : Fin 2048) :
    StableHlo.after hostOps1 W (Proc.devRef .tc main_v2) (ix3 e 0 f) = W (Proc.devRef .tc main_arg3) (ix2 e f) := by
  after_reads_at
theorem reshaped_b2 (e : Fin 8) (d : Fin 1024) :
    StableHlo.after hostOps1 W (Proc.devRef .tc main_v3) (ix3 e 0 d) = W (Proc.devRef .tc main_arg5) (ix2 e d) := by
  after_reads_at
theorem reshaped_output (n : Fin 2048) (d : Fin 1024) :
    StableHlo.after hostOps2 W (Proc.devRef .tc main_v5) (ix3 0 n d) = W (Proc.devRef .tc main_v4) (ix2 n d) := by
  after_reads_at
theorem reshaped_loss :
    StableHlo.after hostOps2 W (Proc.devRef .tc main_v6) ix0 = W (Proc.devRef .tc main_v1_1) (ix2 0 0) := by
  after_reads_at

end Reshapes

variable (m : (ℓ : Loc nD τ sig) → Buf (Elt Ideal) ℓ)

/-! ## The routing region's results -/

/-- The token array at the routing region's entry. -/
def tokens (c : Dev nD) : FVec Ideal S2048x1024 .f32 := B1 m c (Proc.devRef .tc main_v0)
/-- The router's weights at the launch. -/
def router (c : Dev nD) : FVec Ideal S8x1024 .f32 := m ((c.tc : Thread nD τ).loc main_arg1)

theorem tokens_apply (c : Dev nD) (n : Fin 2048) (k : Fin 1024) :
    tokens m c (ix2 n k) = m ((c.tc : Thread nD τ).loc main_arg0) (ix3 0 n k) := reshaped_tokens (B0 m c) n k

theorem B1_router (c : Dev nD) : B1 m c (Proc.devRef .tc main_arg1) = router m c := B1_of m c main_arg1 (by decide)

/-- After the routing region the weights' array holds the weights, -/
theorem B2_weights (c : Dev nD) : B2 m c (Proc.devRef .tc main_v1_0) = weightsOf (tokens m c) (router m c) := by
  refine (B2_arr m c 2).trans ((final0_2 (onTcRefs (B1 m)) c).trans ?_)
  rw [show onTcRefs (B1 m) c main_arg1 = router m c from B1_router m c]
  rfl

/-- and the loss's array the loss. -/
theorem B2_loss (c : Dev nD) : B2 m c (Proc.devRef .tc main_v1_1) = auxOf (tokens m c) (router m c) := by
  refine (B2_arr m c 3).trans ((final0_3 (onTcRefs (B1 m)) c).trans ?_)
  rw [show onTcRefs (B1 m) c main_arg1 = router m c from B1_router m c]
  rfl

/-! ## The expert region's inputs -/

theorem B3_weights (c : Dev nD) : B3 m c (Proc.devRef .tc main_v1_0) = weightsOf (tokens m c) (router m c) :=
  (B3_of m c main_v1_0 (by decide)).trans (B2_weights m c)
theorem B3_tokens (c : Dev nD) : B3 m c (Proc.devRef .tc main_v0) = tokens m c :=
  (B3_of m c main_v0 (by decide)).trans (B2_of m c main_v0 (by decide))
theorem B3_W1 (c : Dev nD) : B3 m c (Proc.devRef .tc main_arg2) = m ((c.tc : Thread nD τ).loc main_arg2) :=
  (B3_of m c main_arg2 (by decide)).trans ((B2_of m c main_arg2 (by decide)).trans (B1_of m c main_arg2 (by decide)))
theorem B3_W2 (c : Dev nD) : B3 m c (Proc.devRef .tc main_arg4) = m ((c.tc : Thread nD τ).loc main_arg4) :=
  (B3_of m c main_arg4 (by decide)).trans ((B2_of m c main_arg4 (by decide)).trans (B1_of m c main_arg4 (by decide)))
theorem B2_b1 (c : Dev nD) : B2 m c (Proc.devRef .tc main_arg3) = m ((c.tc : Thread nD τ).loc main_arg3) :=
  (B2_of m c main_arg3 (by decide)).trans (B1_of m c main_arg3 (by decide))
theorem B2_b2 (c : Dev nD) : B2 m c (Proc.devRef .tc main_arg5) = m ((c.tc : Thread nD τ).loc main_arg5) :=
  (B2_of m c main_arg5 (by decide)).trans (B1_of m c main_arg5 (by decide))

/-! ## The results -/

/-- The first result: every token's sum over the experts of the expert's output times the token's weight of the expert. -/
theorem output_apply (c : Dev nD) (x : FVec Ideal S1x2048x1024 .f32) (hx : x = m ((c.tc : Thread nD τ).loc main_arg0))
    (W1 : FVec Ideal S8x2048x1024 .f32) (h1 : W1 = m ((c.tc : Thread nD τ).loc main_arg2))
    (b1 : FVec Ideal S8x2048 .f32) (h2 : b1 = m ((c.tc : Thread nD τ).loc main_arg3))
    (W2 : FVec Ideal S8x1024x2048 .f32) (h3 : W2 = m ((c.tc : Thread nD τ).loc main_arg4))
    (b2 : FVec Ideal S8x1024 .f32) (h4 : b2 = m ((c.tc : Thread nD τ).loc main_arg5)) (n : Fin 2048) (d : Fin 1024) :
    B5 m c (Proc.devRef .tc main_v5) (ix3 0 n d)
      = ∑ e, network (fun k => x (ix3 0 n k)) (fun f k => W1 (ix3 e f k)) (fun f => b1 (ix2 e f)) (fun d f => W2 (ix3 e d f))
          (fun d => b2 (ix2 e d)) d * weightsOf (F := Ideal) (tokens m c) (router m c) (ix2 n e) := by
  refine (reshaped_output (B4 m c) n d).trans ?_
  refine (congrFun ((B4_arr m c 6).trans (final1_6 (onTcRefs (B3 m)) c)) (ix2 n d)).trans ?_
  refine (show combined (onTcRefs (B3 m)) c (ix2 n d) = ∑ e, term (onTcRefs (B3 m)) c n d e from rfl).trans ?_
  subst hx h1 h2 h3 h4
  refine Finset.sum_congr rfl fun e _ => ?_
  have i0 : onTcRefs (B3 m) c main_v1_0 = weightsOf (tokens m c) (router m c) := B3_weights m c
  have i1 : onTcRefs (B3 m) c main_v0 = tokens m c := B3_tokens m c
  have i2 : onTcRefs (B3 m) c main_arg2 = m ((c.tc : Thread nD τ).loc main_arg2) := B3_W1 m c
  have i3 : onTcRefs (B3 m) c main_arg4 = m ((c.tc : Thread nD τ).loc main_arg4) := B3_W2 m c
  have j1 : ∀ f, onTcRefs (B3 m) c main_v2 (ix3 e 0 f) = m ((c.tc : Thread nD τ).loc main_arg3) (ix2 e f) := fun f =>
    (reshaped_b1 (B2 m c) e f).trans (congrFun (B2_b1 m c) _)
  have j2 : ∀ d, onTcRefs (B3 m) c main_v3 (ix3 e 0 d) = m ((c.tc : Thread nD τ).loc main_arg5) (ix2 e d) := fun d =>
    (reshaped_b2 (B2 m c) e d).trans (congrFun (B2_b2 m c) _)
  unfold term scaled
  rw [i0, i1, i2, i3]
  simp only [j1, j2, tokens_apply]

/-- The second result: the loss. -/
theorem loss_apply (c : Dev nD) :
    B5 m c (Proc.devRef .tc main_v6) ix0 = auxOf (F := Ideal) (tokens m c) (router m c) (ix2 0 0) := by
  refine (reshaped_loss (B4 m c)).trans (congrFun ?_ _)
  exact (B4_other m c main_v1_1 (by decide)).trans ((B3_of m c main_v1_1 (by decide)).trans (B2_loss m c))

end Cert.KernelIdeal.Moe

end
-- ==== Proof.KernelIdealRoute.lean ====
/-
  The routing region's payloads read at an index: softmax column by column, the two best experts of each token,
  the combined weights and the balance loss.
-/
module

public import proofs.«01_k».proof.Proof.KernelIdealBodies
public import proofs.«01_k».proof.Proof.Route
public import Idealize.ShloMosaic.Lib.Pointwise

@[expose] public section

set_option maxRecDepth 16384

noncomputable section

namespace Cert.KernelIdeal.Moe

open Cert.KernelIdeal Cert.KernelIdeal.Gen Idealize.ShloMosaic
open Cert.TopTwo Cert.Route

variable (x : FVec Ideal S2048x1024 .f32) (w : FVec Ideal S8x1024 .f32)

/-- Token `n`'s softmax over the experts. -/
def probOf (n : Fin 2048) : Fin 8 → EReal := prob (logit (fun n k => x (ix2 n k)) (fun e k => w (ix2 e k)) n)

/-- The first payload holds the softmax, an expert per row and a token per column. -/
theorem pay1_apply (e : Fin 8) (n : Fin 2048) : k0_pay1 (F := Ideal) x w (ix2 e n) = probOf x w n e := by
  have hl : ∀ e, ∑ k, w (ix2 e k) * x (ix2 n k) = logit (fun n k => x (ix2 n k)) (fun e k => w (ix2 e k)) n e :=
    fun e => Finset.sum_congr rfl fun k _ => mul_comm _ _
  pointwise [k0_pay1]
  simp only [hl, ofBits_bot]
  rfl

section

variable {x w} {n : Fin 2048} {a b : Fin 8} (h : IsTopTwo (probOf x w n) a b) (hpos : ∀ e, 0 ≤ probOf x w n e)

include h

/-- The greatest probability. -/
theorem pay2_apply : k0_pay2 (F := Ideal) x w (ix2 0 n) = probOf x w n a := by
  pointwise [k0_pay2]
  simp only [pay1_apply, ofBits_bot]
  exact h.first.fold_max

/-- The best expert. -/
theorem pay3_apply : k0_pay3 (F := Ideal) x w (ix2 0 n) = BitVec.ofNat 32 a.val := by
  pointwise [k0_pay3]
  simp only [pay1_apply, pay2_apply h]
  convert h.first.fold_min

/-- Whether the second expert is kept. -/
theorem pay7_apply : k0_pay7 (F := Ideal) x w (ix2 0 n) = 1#1 ↔ Kept (probOf x w n) a := by
  pointwise [k0_pay7]
  rw [pay2_apply h]
  unfold Kept
  by_cases hk : probOf x w n a < Ideal.ofBits .f32 0x3F666666#32
  · rw [decide_eq_true hk]; exact ⟨fun _ => hk, fun _ => rfl⟩
  · rw [decide_eq_false hk]; exact ⟨fun he => absurd he (by decide), fun he => absurd he hk⟩

/-- The probabilities with the best expert's masked. -/
theorem pay4_apply (e : Fin 8) : k0_pay4 (F := Ideal) x w (ix2 e n)
    = if e = a then Ideal.ofBits .f32 0xBF800000#32 else probOf x w n e := by
  pointwise [k0_pay4]
  rw [pay3_apply h, pay1_apply, cmpi_expert]
  by_cases he : e = a
  · rw [if_pos he, decide_eq_true he]; rfl
  · rw [if_neg he, decide_eq_false he]; rfl

include hpos

/-- The second greatest probability. -/
theorem pay5_apply : k0_pay5 (F := Ideal) x w (ix2 0 n) = probOf x w n b := by
  pointwise [k0_pay5]
  simp only [pay4_apply h, ofBits_bot]
  exact (h.masked _ fun e => mask_lt (hpos e)).fold_max.trans (if_neg h.ne)

/-- The second best expert. -/
theorem pay6_apply : k0_pay6 (F := Ideal) x w (ix2 0 n) = BitVec.ofNat 32 b.val := by
  have hb := (h.masked _ fun e => mask_lt (hpos e)).fold_min
  pointwise [k0_pay6]
  simp only [pay4_apply h, pay5_apply h hpos]
  convert hb using 3
  rw [if_neg h.ne]

omit hpos in
theorem select_kept (u v : EReal) [Decidable (Kept (probOf x w n) a)] : Scalar.select (k0_pay7 (F := Ideal) x w (ix2 0 n)) u v
    = if Kept (probOf x w n) a then u else v := by
  by_cases hk : Kept (probOf x w n) a
  · rw [if_pos hk, (pay7_apply h).mpr hk]; rfl
  · rw [if_neg hk, (bit_cases _).resolve_right fun he => hk ((pay7_apply h).mp he)]; rfl

/-- The divisor of the weights. -/
theorem pay9_apply : k0_pay9 (F := Ideal) x w (ix2 0 n) = denom (probOf x w n) a b := by
  classical
  pointwise [k0_pay9, k0_pay8]
  rw [select_kept h, pay2_apply h, pay5_apply h hpos]
  unfold denom
  congr

/-- The second expert's hits. -/
theorem second_apply (e : Fin 8) [Decidable (Kept (probOf x w n) a)] :
    FloatOps.sitofp (F := Ideal) .f32 (BitVec.setWidth 32
      (IntOp.andi (IntOp.cmpi .eq (BitVec.ofNat 32 e.val) (k0_pay6 (F := Ideal) x w (ix2 0 n))) (k0_pay7 (F := Ideal) x w (ix2 0 n))))
      = if Kept (probOf x w n) a then hot b e else 0 := by
  rw [sitofp_bit, pay6_apply h hpos, cmpi_expert]
  unfold hot
  by_cases hk : Kept (probOf x w n) a
  · rw [if_pos hk, (pay7_apply h).mpr hk]
    by_cases he : e = b
    · rw [if_pos he, decide_eq_true he]; rfl
    · rw [if_neg he, decide_eq_false he]; rfl
  · rw [if_neg hk, (bit_cases _).resolve_right fun he => hk ((pay7_apply h).mp he)]
    by_cases he : e = b
    · rw [decide_eq_true he]; rfl
    · rw [decide_eq_false he]; rfl

omit hpos in
/-- The first expert's hits. -/
theorem first_apply (e : Fin 8) :
    FloatOps.sitofp (F := Ideal) .f32 (BitVec.setWidth 32
      (IntOp.cmpi .eq (BitVec.ofNat 32 e.val) (k0_pay3 (F := Ideal) x w (ix2 0 n)))) = hot a e := by
  rw [sitofp_bit, pay3_apply h, cmpi_expert]
  unfold hot
  by_cases he : e = a
  · rw [if_pos he, decide_eq_true he]; rfl
  · rw [if_neg he, decide_eq_false he]; rfl

/-- The region's first result: each token's weight of each expert. -/
theorem weightsOf_apply (e : Fin 8) : weightsOf (F := Ideal) x w (ix2 n e) = weight (probOf x w n) a b e := by
  classical
  pointwise [weightsOf, k0_pay14, k0_pay13, k0_pay12, k0_pay10, k0_pay11, k0_pay8]
  rw [first_apply h, second_apply h hpos, select_kept h, select_kept h, pay2_apply h, pay5_apply h hpos, pay9_apply h hpos]
  unfold weight
  by_cases hk : Kept (probOf x w n) a
  · simp only [if_pos hk]
  · simp only [if_neg hk]

end

/-- The region's second result: the balance loss. -/
theorem auxOf_apply {a b : Fin 2048 → Fin 8} (h : ∀ n, IsTopTwo (probOf x w n) (a n) (b n))
    (hpos : ∀ n e, 0 ≤ probOf x w n e) (j : S1x1.Idx) : auxOf (F := Ideal) x w j = balance (probOf x w) a b := by
  classical
  pointwise [auxOf, k0_pay15, k0_pay13, k0_pay12]
  simp only [first_apply (h _), second_apply (h _) (hpos _), pay1_apply]
  simp only [Finset.univ_unique (α := Fin 1), Finset.sum_singleton]
  unfold balance hits
  congr

end Cert.KernelIdeal.Moe

end
-- ==== Proof.ReferenceRoute.lean ====
/-
  The reference's routing read at an index: the softmax, the two greatest probabilities of each token, the combined
  weights and the balance loss.
-/
module

public import proofs.«01_k».proof.Proof.Gen.ReferenceIdeal.Read
public import proofs.«01_k».proof.Proof.Route
public import Idealize.ShloMosaic.Lib.Pointwise

@[expose] public section

set_option maxRecDepth 16384

noncomputable section

namespace Cert.ReferenceIdeal.Moe

open Cert.ReferenceIdeal Cert.ReferenceIdeal.Read Idealize.ShloMosaic
open Cert.TopTwo Cert.Route

/-- Position `k` of the fiber through `(n, s)` along the experts is `(n, k)`. -/
theorem along_row (n : Fin 2048) (s k : Fin 8) : Shape.Idx.along (s := S2048x8) (ix2 n s) 1 k = ix2 n k := by
  funext i
  fin_cases i <;> rfl

/-- A row sorted in descending order reads, at each position, the probability the sort brings there. -/
theorem sort_values (p : FVec Ideal S2048x8 .f32) (n : Fin 2048) (s : Fin 8) :
    (Host.sort2 S2048x8 1 (fun l r => FloatOps.cmpfTotal (F := Ideal) (φ := .f32) CmpDirection.gt l.1 r.1) p fun i => BitVec.ofNat 32 (i 1).val).1
      (ix2 n s) = p (ix2 n (sortedFrom (fun k k' => FloatOps.cmpfTotal (F := Ideal) (φ := .f32) .gt (p (ix2 n k)) (p (ix2 n k')) == 1#1) s)) := by
  unfold Host.sort2
  rw [dif_pos (by decide)]
  show p (Shape.Idx.along (s := S2048x8) (ix2 n s) 1 (sortedFrom (fun k k' => FloatOps.cmpfTotal (F := Ideal) (φ := .f32) .gt
    (p (Shape.Idx.along (s := S2048x8) (ix2 n s) 1 k)) (p (Shape.Idx.along (s := S2048x8) (ix2 n s) 1 k')) == 1#1) s)) = _
  refine (congrArg p (along_row n s _)).trans ?_
  refine congrArg (fun r : Fin 8 → Fin 8 → Bool => p (ix2 n (sortedFrom r s))) (funext fun k => funext fun k' => ?_)
  exact congrArg₂ (fun i j : S2048x8.Idx => FloatOps.cmpfTotal (F := Ideal) (φ := .f32) .gt (p i) (p j) == 1#1) (along_row n s k) (along_row n s k')

/-- The expert numbers sorted along with the row. -/
theorem sort_indices (p : FVec Ideal S2048x8 .f32) (n : Fin 2048) (s : Fin 8) :
    (Host.sort2 S2048x8 1 (fun l r => FloatOps.cmpfTotal (F := Ideal) (φ := .f32) CmpDirection.gt l.1 r.1) p fun i => BitVec.ofNat 32 (i 1).val).2
      (ix2 n s) = BitVec.ofNat 32 (sortedFrom (fun k k' => FloatOps.cmpfTotal (F := Ideal) (φ := .f32) .gt (p (ix2 n k)) (p (ix2 n k')) == 1#1) s).val := by
  unfold Host.sort2
  rw [dif_pos (by decide)]
  show (fun i : S2048x8.Idx => BitVec.ofNat 32 (i 1).val) (Shape.Idx.along (s := S2048x8) (ix2 n s) 1 (sortedFrom (fun k k' => FloatOps.cmpfTotal (F := Ideal) (φ := .f32) .gt
    (p (Shape.Idx.along (s := S2048x8) (ix2 n s) 1 k)) (p (Shape.Idx.along (s := S2048x8) (ix2 n s) 1 k')) == 1#1) s)) = _
  refine (congrArg (fun i : S2048x8.Idx => BitVec.ofNat 32 (i 1).val) (along_row n s _)).trans ?_
  refine congrArg (fun r : Fin 8 → Fin 8 → Bool => BitVec.ofNat 32 (sortedFrom r s).val) (funext fun k => funext fun k' => ?_)
  exact congrArg₂ (fun i j : S2048x8.Idx => FloatOps.cmpfTotal (F := Ideal) (φ := .f32) .gt (p i) (p j) == 1#1) (along_row n s k) (along_row n s k')

/-! ### A running sum of two, read at its first position -/

theorem window_numel : Shape.numel ⟨2, ![1, 2]⟩ = 2 := by decide
theorem window_positions : List.finRange (Shape.numel ⟨2, ![1, 2]⟩) = [Fin.cast window_numel.symm 0, Fin.cast window_numel.symm 1] := by decide
theorem window_00 : ((⟨2, ![1, 2]⟩ : Shape).rowMajor.symm (Fin.cast window_numel.symm 0) 1).val = 0 := by decide +kernel
theorem window_10 : ((⟨2, ![1, 2]⟩ : Shape).rowMajor.symm (Fin.cast window_numel.symm 1) 0).val = 0 := by decide +kernel
theorem window_11 : ((⟨2, ![1, 2]⟩ : Shape).rowMajor.symm (Fin.cast window_numel.symm 1) 1).val = 1 := by decide +kernel

/-- The running sum from zero holds, at the first position, the first entry. -/
theorem running_sum_first (v : FVec Ideal S2048x2 .f32) (i : FVec Ideal S_ .f32) (hi : i (Shape.Idx.first Gen.h_S_) = 0) (n : Fin 2048) :
   Host.reduceWindowAdd (F := Ideal) (φ := .f32) ![1, 2] ![1, 1] ![0, 1] ![0, 0] v i
                Gen.reduceWindows_S2048x2_S2048x2_w1s1p0_0_w2s1p1_0 Gen.h_S_ (ix2 n 0) = v (ix2 n 0) := by
  unfold Host.reduceWindowAdd
  rw [Ideal.hostReduceWindowAdd_def]
  unfold Ideal.hostReduceWindowAdd Host.reduceWindow
  have hnum := window_numel
  have hfin := window_positions
  have h00 := window_00
  have h10 := window_10
  have h11 := window_11
  dsimp only
  erw [hfin]
  simp only [List.foldl_cons, List.foldl_nil]
  have hn := n.isLt
  rw [hi, dif_neg, dif_pos]
  · simp only [zero_add]
    refine congrArg v (funext fun q => Fin.ext ?_)
    match q with
    | ⟨0, _⟩ =>
      show n.val * 1 + ((⟨2, ![1, 2]⟩ : Shape).rowMajor.symm (Fin.cast hnum.symm 1) 0).val - 0 = n.val
      rw [h10]; omega
    | ⟨1, _⟩ =>
      show 0 * 1 + ((⟨2, ![1, 2]⟩ : Shape).rowMajor.symm (Fin.cast hnum.symm 1) 1).val - 1 = 0
      rw [h11]
  · intro q
    match q with
    | ⟨0, _⟩ =>
      show 0 ≤ n.val * 1 + ((⟨2, ![1, 2]⟩ : Shape).rowMajor.symm (Fin.cast hnum.symm 1) 0).val
        ∧ n.val * 1 + ((⟨2, ![1, 2]⟩ : Shape).rowMajor.symm (Fin.cast hnum.symm 1) 0).val - 0 < 2048
      rw [h10]; omega
    | ⟨1, _⟩ =>
      show 1 ≤ 0 * 1 + ((⟨2, ![1, 2]⟩ : Shape).rowMajor.symm (Fin.cast hnum.symm 1) 1).val
        ∧ 0 * 1 + ((⟨2, ![1, 2]⟩ : Shape).rowMajor.symm (Fin.cast hnum.symm 1) 1).val - 1 < 2
      rw [h11]; omega
  · intro hin
    have h1 := (hin 1).1
    change 1 ≤ 0 * 1 + ((⟨2, ![1, 2]⟩ : Shape).rowMajor.symm (Fin.cast hnum.symm 0) 1).val at h1
    rw [h00] at h1
    omega

variable (x0 : FVec Ideal S1x2048x1024 .f32) (x1 : FVec Ideal S8x1024 .f32)

/-- Token `n`'s softmax over the experts. -/
def probOf (n : Fin 2048) : Fin 8 → EReal := prob (logit (fun n k => x0 (ix3 0 n k)) (fun e k => x1 (ix2 e k)) n)

/-- The softmax. -/
theorem v13_apply (n : Fin 2048) (e : Fin 8) : val_main_v13 (F := Ideal) x0 x1 (ix2 n e) = probOf x0 x1 n e := by
  have hb : val_main_cst (F := Ideal) (Shape.Idx.first Gen.h_S_) = (⊥ : EReal) := ofBits_bot
  have hb0 : val_main_cst_0 (F := Ideal) ix0 = (⊥ : EReal) := ofBits_bot
  have h0 : val_main_cst_1 (F := Ideal) (Shape.Idx.first Gen.h_S_) = (0 : EReal) := Ideal.ofBits_zero_f32
  pointwise [val_main_v13, val_main_v12, val_main_v11, val_main_v10, val_main_v9, val_main_v8, val_main_v7, val_main_v6, val_main_v5,
    val_main_v4, val_main_v3, val_main_v2, val_main_v1, val_main_v0]
  rw [hb, hb0, h0]
  simp only [zero_add, bot_sup_eq, max_bot_left]
  rfl

/-- The softmax computed again for the balance loss is the first one. -/
theorem v76_eq : val_main_v76 (F := Ideal) x0 x1 = val_main_v13 x0 x1 := by
  unfold val_main_v76 val_main_v75 val_main_v74 val_main_v73 val_main_v72 val_main_v71 val_main_v70 val_main_v69 val_main_v68 val_main_v67
    val_main_v66 val_main_v13 val_main_v12 val_main_v11 val_main_v10 val_main_v9 val_main_v8 val_main_v7 val_main_v6 val_main_v5
    val_main_v4 val_main_v3 val_main_cst val_main_cst_0 val_main_cst_1 val_main_cst_10 val_main_cst_11 val_main_cst_12
  rfl

section

variable {x0 x1} {n : Fin 2048} {a b : Fin 8} (h : IsTopTwo (probOf x0 x1 n) a b)

include h

theorem topTwo_v13 : IsTopTwo (fun e => val_main_v13 (F := Ideal) x0 x1 (ix2 n e)) a b := by
  simpa only [v13_apply] using h

/-- The two greatest probabilities. -/
theorem values_apply (s : Fin 2) : val_main_values (F := Ideal) x0 x1 (ix2 n s) = probOf x0 x1 n ((![a, b] : Fin 2 → Fin 8) s) := by
  have ht := topTwo_v13 h
  rw [← v13_apply]
  unfold val_main_values
  generalize val_main_v13 (F := Ideal) x0 x1 = p at ht
  pointwise [Host.topK]
  exact (sort_values p n (s.castLE (by decide))).trans (congrArg (fun k => p (ix2 n k)) (sortedFrom_topTwo _ a b ht s))

/-- Their experts. -/
theorem indices_apply (s : Fin 2) :
    val_main_indices (F := Ideal) x0 x1 (ix2 n s) = BitVec.ofNat 32 ((![a, b] : Fin 2 → Fin 8) s).val := by
  have ht := topTwo_v13 h
  unfold val_main_indices
  generalize val_main_v13 (F := Ideal) x0 x1 = p at ht
  pointwise [Host.topK]
  exact (sort_indices p n (s.castLE (by decide))).trans
    (congrArg (fun k : Fin 8 => BitVec.ofNat 32 k.val) (sortedFrom_topTwo _ a b ht s))

omit h in
/-- The first of the two is always kept. -/
theorem v25_first : val_main_v25 (F := Ideal) x0 x1 (ix2 n 0) = 1#1 := by
  pointwise [val_main_v25, val_main_v24, val_main_v23, val_main_v22, val_main_v21, val_main_v20, val_main_v19, val_main_v18,
    val_main_v17, val_main_v15, val_main_v16, val_main_c, val_main_cst_3, val_main_cst_2]
  generalize BitVec.ofBool _ = y
  revert y
  decide

/-- The second is kept when the first's probability is below nine tenths. -/
theorem v25_second : val_main_v25 (F := Ideal) x0 x1 (ix2 n 1) = 1#1 ↔ Kept (probOf x0 x1 n) a := by
  have hr := running_sum_first (val_main_values (F := Ideal) x0 x1) (val_main_call0_call0_v0 (F := Ideal)) Ideal.ofBits_zero_f32 n
  rw [values_apply h] at hr
  pointwise [val_main_v25, val_main_v24, val_main_v23, val_main_v22, val_main_v21, val_main_v20, val_main_v19, val_main_v18,
    val_main_v17, val_main_v15, val_main_v16, val_main_c, val_main_cst_3, val_main_cst_2, val_main_v14]
  rw [hr]
  show IntOp.ori (IntOp.cmpi .slt 1#32 1#32) (BitVec.ofBool (decide (probOf x0 x1 n a < Ideal.ofBits .f32 0x3F666666#32))) = 1#1 ↔ _
  unfold Kept
  by_cases hk : probOf x0 x1 n a < Ideal.ofBits .f32 0x3F666666#32
  · rw [decide_eq_true hk]; exact ⟨fun _ => hk, fun _ => by decide⟩
  · rw [decide_eq_false hk]; exact ⟨fun he => absurd he (by decide), fun he => absurd he hk⟩

/-- The experts the tokens are assigned to, named by words; an expert not kept is named by no word. -/
theorem v28_first : val_main_v28 (F := Ideal) x0 x1 (ix2 n 0) = BitVec.ofNat 32 a.val := by
  rw [val_main_v28_apply, v25_first, indices_apply h]
  rfl

open Classical in
theorem v28_second : val_main_v28 (F := Ideal) x0 x1 (ix2 n 1)
    = if Kept (probOf x0 x1 n) a then BitVec.ofNat 32 b.val else 4294967295#32 := by
  rw [val_main_v28_apply, indices_apply h]
  by_cases hk : Kept (probOf x0 x1 n) a
  · rw [if_pos hk, (v25_second h).mpr hk]; rfl
  · rw [if_neg hk, (bit_cases _).resolve_right fun he => hk ((v25_second h).mp he)]; rfl

open Classical in
/-- Each token's weight of each expert. -/
theorem v63_apply (e : Fin 8) : val_main_v63 (F := Ideal) x0 x1 (ix2 n e) = weight (probOf x0 x1 n) a b e := by
  have hall : (∀ e : Fin 8, IntOp.cmpi .eq 4294967295#32 (BitVec.ofNat 32 e.val) = 0#1) := by decide
  pointwise [val_main_v63, val_main_v62, val_main_v61, val_main_v60, val_main_v59, val_main_v58, val_main_v57, val_main_v56, val_main_v55,
    val_main_v54, val_main_v53, val_main_v35, val_main_v34, val_main_v33, val_main_v32, val_main_v31, val_main_v30, val_main_v29,
    val_main_v27, val_main_v26, val_main_cst_9, val_main_cst_5, val_main_cst_6, val_main_call2_v0, val_main_call2_v1]
  simp only [Fin.sum_univ_two, v28_first h, v28_second h, v25_first, values_apply h, uitofp_bit, v25_second h]
  have hp0 : (![a, b] : Fin 2 → Fin 8) 0 = a := rfl
  have hp1 : (![a, b] : Fin 2 → Fin 8) 1 = b := rfl
  rw [hp0, hp1]
  have hc : id (constant (F := Ideal) S_ FTy.f32 814313567#32) ix0 = Ideal.ofBits .f32 0x3089705F#32 := rfl
  have hbit : ∀ c : Fin 8, (BitVec.ofBool (decide (c = e)) = 1#1) = (e = c) := fun c => by
    by_cases hce : e = c
    · rw [decide_eq_true hce.symm]; exact propext ⟨fun _ => hce, fun _ => rfl⟩
    · rw [decide_eq_false (Ne.symm hce)]; exact propext ⟨fun he => absurd he (by decide), fun he => absurd he hce⟩
  unfold weight denom hot
  by_cases hk : Kept (probOf x0 x1 n) a
  · simp only [if_pos hk, mul_one, cmpi_expert, hc, hbit, if_true, max_comm (Ideal.ofBits .f32 0x3089705F#32)]
  · simp only [if_neg hk, mul_one, mul_zero, zero_mul, add_zero, cmpi_expert, hc, hbit, if_true, max_comm (Ideal.ofBits .f32 0x3089705F#32)]

end

/-- A chosen expert's word is not negative. -/
theorem assigned (c : Fin 8) : IntOp.cmpi .sge (BitVec.ofNat 32 c.val) 0#32 = 1#1 := by
  revert c; decide

open Classical in
/-- Each token's hits of each expert. -/
theorem v85_apply {n : Fin 2048} {a b : Fin 8} (h : IsTopTwo (probOf x0 x1 n) a b) (e : Fin 8) :
    val_main_v85 (F := Ideal) x0 x1 (ix2 n e) = hits (probOf x0 x1 n) a b e := by
  have hbit : ∀ c : Fin 8, (BitVec.ofBool (decide (c = e)) = 1#1) = (e = c) := fun c => by
    by_cases hce : e = c
    · rw [decide_eq_true hce.symm]; exact propext ⟨fun _ => hce, fun _ => rfl⟩
    · rw [decide_eq_false (Ne.symm hce)]; exact propext ⟨fun he => absurd he (by decide), fun he => absurd he hce⟩
  have hsel : ∀ u v : BitVec 32, Scalar.select 1#1 u v = u := fun _ _ => rfl
  have hnone : (IntOp.cmpi .sge 4294967295#32 0#32 = 1#1) = False := by simp only [eq_iff_iff, iff_false]; decide
  pointwise [val_main_v85, val_main_v84, val_main_v83, val_main_v82, val_main_v81, val_main_v80, val_main_v79, val_main_v78, val_main_v77,
    val_main_call4_v4, val_main_call4_v3, val_main_call4_v2, val_main_call4_v1, val_main_call4_v0, val_main_call3_v1, val_main_call3_v0,
    val_main_c_14, val_main_c_13, val_main_cst_15]
  have hz : id (constantI S_ 32 0#32) ix0 = 0#32 := rfl
  simp only [Fin.sum_univ_two, v28_first h, v28_second h, hz]
  unfold hits hot
  by_cases hk : Kept (probOf x0 x1 n) a
  · simp only [if_pos hk, assigned, hsel, cmpi_expert, uitofp_bit, hbit, if_true, mul_one]
  · simp only [if_neg hk, assigned, hsel, cmpi_expert, uitofp_bit, hbit, if_true, mul_one, hnone, if_false, mul_zero]

/-- The token-by-expert pairs are summed token by token. -/
theorem sum_pairs (y : S2048x8.Idx → EReal) : ∑ j, y j = ∑ n : Fin 2048, ∑ e : Fin 8, y (ix2 n e) := by
  rw [ValueIdx.sum_idx2]
  rfl

theorem sum_experts (y : S8.Idx → EReal) : ∑ j, y j = ∑ e : Fin 8, y (ix1 e) :=
  Fintype.sum_equiv ⟨fun j => (j 0 : Fin 8), fun e => ix1 e, fun j => by funext i; fin_cases i; rfl, fun _ => rfl⟩ _ _
    fun j => congrArg y (by funext i; fin_cases i; rfl)

/-- The balance loss. -/
theorem v97_apply {a b : Fin 2048 → Fin 8} (h : ∀ n, IsTopTwo (probOf x0 x1 n) (a n) (b n)) (j : S_.Idx) :
    val_main_v97 (F := Ideal) x0 x1 j = balance (probOf x0 x1) a b := by
  have h86 : ∀ j, val_main_v86 (F := Ideal) x0 x1 j = ∑ e, ∑ n, hits (probOf x0 x1 n) (a n) (b n) e := fun j => by
    rw [val_main_v86_apply, show val_main_cst_16 (F := Ideal) (Shape.Idx.first Gen.h_S_) = (0 : EReal) from Ideal.ofBits_zero_f32, zero_add,
      sum_pairs, Finset.sum_comm]
    exact Finset.sum_congr rfl fun e _ => Finset.sum_congr rfl fun n _ => v85_apply x0 x1 (h n) e
  have h88 : ∀ e : Fin 8, val_main_v88 (F := Ideal) x0 x1 (ix1 e) = ∑ n, hits (probOf x0 x1 n) (a n) (b n) e := fun e => by
    rw [val_main_v88_apply, show val_main_cst_18 (F := Ideal) (Shape.Idx.first Gen.h_S_) = (0 : EReal) from Ideal.ofBits_zero_f32, zero_add]
    refine Finset.sum_congr rfl fun n _ => Eq.trans (congrArg _ ?_) (v85_apply x0 x1 (h n) e)
    funext i; fin_cases i <;> rfl
  have h91 : ∀ e : Fin 8, val_main_v91 (F := Ideal) x0 x1 (ix1 e) = ∑ n, probOf x0 x1 n e := fun e => by
    rw [val_main_v91_apply, show val_main_cst_19 (F := Ideal) (Shape.Idx.first Gen.h_S_) = (0 : EReal) from Ideal.ofBits_zero_f32, zero_add, v76_eq]
    refine Finset.sum_congr rfl fun n _ => Eq.trans (congrArg _ ?_) (v13_apply x0 x1 n e)
    funext i; fin_cases i <;> rfl
  have h94 : ∀ e : Fin 8, val_main_v94 (F := Ideal) x0 x1 (ix1 e)
      = Ideal.div (∑ n, hits (probOf x0 x1 n) (a n) (b n) e) (max (∑ e, ∑ n, hits (probOf x0 x1 n) (a n) (b n) e) 1)
        * Ideal.div (∑ n, probOf x0 x1 n e) (Ideal.ofBits .f32 0x45000000#32) := fun e => by
    rw [val_main_v94_apply, val_main_v90_apply, val_main_v93_apply, val_main_v89_apply, val_main_v92_apply, val_main_v87_apply, h86, h88, h91]
    show Ideal.div _ (max (Ideal.ofBits .f32 0x3F800000#32) _) * Ideal.div _ _ = _
    rw [Ideal.ofBits_one_f32, max_comm (1 : EReal)]
    rfl
  rw [val_main_v97_apply, val_main_v96_apply, val_main_v95_apply, sum_experts,
    show val_main_cst_21 (F := Ideal) (Shape.Idx.first Gen.h_S_) = (0 : EReal) from Ideal.ofBits_zero_f32, zero_add]
  simp only [h94]
  rfl

end Cert.ReferenceIdeal.Moe

end
-- ==== Proof.ReferenceExpert.lean ====
/-
  The reference's expert networks and its result read at an index.
-/
module

public import proofs.«01_k».proof.Proof.Gen.ReferenceIdeal.Read
public import proofs.«01_k».proof.Proof.Expert
public import Idealize.ShloMosaic.Lib.Pointwise

@[expose] public section

set_option maxRecDepth 16384

noncomputable section

namespace Cert.ReferenceIdeal.Moe

open Cert.ReferenceIdeal Cert.ReferenceIdeal.Read Idealize.ShloMosaic Cert.Route

variable (x0 : FVec Ideal S1x2048x1024 .f32) (x1 : FVec Ideal S8x1024 .f32) (x2 : FVec Ideal S8x2048x1024 .f32)
  (x3 : FVec Ideal S8x2048 .f32) (x4 : FVec Ideal S8x1024x2048 .f32) (x5 : FVec Ideal S8x1024 .f32)

/-- The hidden activations. -/
theorem v48_apply (e : Fin 8) (n f : Fin 2048) :
    val_main_v48 (F := Ideal) x0 x2 x3 (ix3 e n f) = gelu (∑ k, x0 (ix3 0 n k) * x2 (ix3 e f k) + x3 (ix2 e f)) := by
  have hc7 : val_main_cst_7 (F := Ideal) ix0 = Ideal.ofBits .f32 0x3F000000#32 := rfl
  have hc8 : val_main_cst_8 (F := Ideal) ix0 = Ideal.ofBits .f32 0x40000000#32 := rfl
  have hs : ∑ k, x0 (ix3 0 n k) * x2 (ix3 e f k) = ∑ k, x2 (ix3 e f k) * x0 (ix3 0 n k) :=
    Finset.sum_congr rfl fun k _ => mul_comm _ _
  rw [hs, ← gelu_erfc]
  pointwise [val_main_v48, val_main_v47, val_main_v46, val_main_v45, val_main_v44, val_main_v43, val_main_v42, val_main_v41, val_main_v40,
    val_main_v39, val_main_v38, val_main_v37, val_main_v36, val_main_v0]
  rw [hc7, hc8]

/-- Every expert's output on every token. -/
theorem v52_apply (e : Fin 8) (n : Fin 2048) (d : Fin 1024) :
    val_main_v52 (F := Ideal) x0 x2 x3 x4 x5 (ix3 e n d)
      = network (fun k => x0 (ix3 0 n k)) (fun f k => x2 (ix3 e f k)) (fun f => x3 (ix2 e f)) (fun d f => x4 (ix3 e d f))
          (fun d => x5 (ix2 e d)) d := by
  pointwise [val_main_v52, val_main_v51, val_main_v50, val_main_v49]
  simp only [v48_apply]
  rfl

/-- The result: every token's experts' outputs combined by the token's weights. -/
theorem v65_apply (n : Fin 2048) (d : Fin 1024) :
    val_main_v65 (F := Ideal) x0 x1 x2 x3 x4 x5 (ix3 0 n d)
      = ∑ e, val_main_v63 (F := Ideal) x0 x1 (ix2 n e)
          * network (fun k => x0 (ix3 0 n k)) (fun f k => x2 (ix3 e f k)) (fun f => x3 (ix2 e f)) (fun d f => x4 (ix3 e d f))
              (fun d => x5 (ix2 e d)) d := by
  pointwise [val_main_v65, val_main_v64]
  simp only [v52_apply]

end Cert.ReferenceIdeal.Moe

end
-- ==== Proof.FiniteLogits.lean ====
/-
  The precondition read at an index: every element of the tokens and of the router's weights is a real number.
-/
module

public import proofs.«01_k».proof.Pre_finite_logits
public import proofs.«01_k».proof.Proof.Route
public import Idealize.ShloMosaic.Lib.Pointwise

@[expose] public section

set_option maxRecDepth 16384

noncomputable section

namespace Cert.Pre_finite_logits.Moe

open Cert.Pre_finite_logits Idealize.ShloMosaic Cert.Route

/-- A conjunction of bits is one only when both are. -/
theorem andi_one : ∀ a b : BitVec 1, IntOp.andi a b = 1#1 → a = 1#1 ∧ b = 1#1 := by decide

/-- A conjunction over a finite set is one only when every bit is. -/
theorem fold_one {ι : Type} [DecidableEq ι] [Std.Commutative (IntOp.andi (w := 1))] [Std.Associative (IntOp.andi (w := 1))] (f : ι → BitVec 1)
    (s : Finset ι) (h : s.fold IntOp.andi 1#1 f = 1#1) : ∀ i ∈ s, f i = 1#1 := by
  induction s using Finset.induction_on with
  | empty => exact fun i hi => absurd hi (Finset.notMem_empty i)
  | insert a s ha ih =>
    rw [Finset.fold_insert ha] at h
    obtain ⟨h1, h2⟩ := andi_one _ _ h
    intro i hi
    rcases Finset.mem_insert.mp hi with rfl | hi
    · exact h1
    · exact ih h2 i hi

theorem fold_univ_one {ι : Type} [DecidableEq ι] [Fintype ι] [Std.Commutative (IntOp.andi (w := 1))] [Std.Associative (IntOp.andi (w := 1))]
    (f : ι → BitVec 1) (h : Finset.univ.fold IntOp.andi 1#1 f = 1#1) (i : ι) : f i = 1#1 :=
  fold_one f Finset.univ h i (Finset.mem_univ i)

/-- A number whose absolute value is below the infinity is real. -/
theorem real_of_abs_lt (x : EReal)
    (h : BitVec.ofBool (decide (FloatOps.absf (F := Ideal) (φ := .f32) x < Ideal.ofBits .f32 0x7F800000#32)) = 1#1) : Real' x := by
  have htop : Ideal.ofBits .f32 0x7F800000#32 = ⊤ := by simp [Ideal.ofBits, Ideal.ieee]
  rw [htop, Ideal.absf_def] at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

variable [Cert.Pre_finite_logits.Facts] (a0 : FVec Ideal S1x2048x1024 .f32) (a1 : FVec Ideal S8x1024 .f32)
  (a2 : FVec Ideal S8x2048x1024 .f32) (a3 : FVec Ideal S8x2048 .f32) (a4 : FVec Ideal S8x1024x2048 .f32)
  (a5 : FVec Ideal S8x1024 .f32)

/-- The tokens are real. -/
theorem tokens_real (h : (fn (F := Ideal) a0 a1 a2 a3 a4 a5).1 = fun _ => 1#1) (n : Fin 2048) (k : Fin 1024) :
    Real' (a0 (ix3 0 n k)) := by
  have e := congrFun h ix0
  simp only [fn] at e
  pointwise at e
  exact real_of_abs_lt _ (fold_univ_one _ e (0, n, k))

/-- The router's weights are real. -/
theorem router_real (h : (fn (F := Ideal) a0 a1 a2 a3 a4 a5).2 = fun _ => 1#1) (e : Fin 8) (k : Fin 1024) :
    Real' (a1 (ix2 e k)) := by
  have e' := congrFun h ix0
  simp only [fn] at e'
  pointwise at e'
  exact real_of_abs_lt _ (fold_univ_one _ e' (e, k))

end Cert.Pre_finite_logits.Moe

end
-- ==== Proof.Agreement.lean ====
/-
  The kernel's results are the reference's, from memories that agree on the arguments and hold real tokens and router weights.
-/
module

public import proofs.«01_k».proof.Defs
public import proofs.«01_k».proof.Proof.Gen.ReferenceIdeal.Run
public import proofs.«01_k».proof.Proof.KernelIdealResult
public import proofs.«01_k».proof.Proof.KernelIdealRoute
public import proofs.«01_k».proof.Proof.ReferenceRoute
public import proofs.«01_k».proof.Proof.ReferenceExpert
public import proofs.«01_k».proof.Proof.FiniteLogits
public import Idealize.ShloMosaic.Lib.StableHlo.RunHlo

@[expose] public section

set_option maxRecDepth 16384

noncomputable section

namespace Cert.Agreement

open Idealize.ShloMosaic Idealize.ShloMosaic.TcCoe Idealize.SL.Sem Cert.Route

/-- The kernel's memory and the reference's. -/
abbrev KernelMem := (ℓ : Loc Cert.KernelIdeal.nD Cert.KernelIdeal.τ Cert.KernelIdeal.sig) → Buf (Elt Ideal) ℓ
abbrev ReferenceMem := (ℓ : Loc Cert.ReferenceIdeal.nD Cert.ReferenceIdeal.τ Cert.ReferenceIdeal.sig) → Buf (Elt Ideal) ℓ

section Values

open Cert.KernelIdeal Cert.KernelIdeal.Gen Cert.KernelIdeal.Moe

variable (m : KernelMem) (c : Dev nD) (x : FVec Ideal S1x2048x1024 .f32) (hx : x = m ((c.tc : Thread nD τ).loc main_arg0))
  (w : FVec Ideal S8x1024 .f32) (hw : w = m ((c.tc : Thread nD τ).loc main_arg1))
  (W1 : FVec Ideal S8x2048x1024 .f32) (h1 : W1 = m ((c.tc : Thread nD τ).loc main_arg2))
  (b1 : FVec Ideal S8x2048 .f32) (h2 : b1 = m ((c.tc : Thread nD τ).loc main_arg3))
  (W2 : FVec Ideal S8x1024x2048 .f32) (h3 : W2 = m ((c.tc : Thread nD τ).loc main_arg4))
  (b2 : FVec Ideal S8x1024 .f32) (h4 : b2 = m ((c.tc : Thread nD τ).loc main_arg5))
  (rx : ∀ n k, Real' (x (ix3 0 n k))) (rw' : ∀ e k, Real' (w (ix2 e k)))

include hx hw in
/-- Both programs' routing probabilities of a token are the same numbers. -/
theorem probabilities (n : Fin 2048) :
    Cert.KernelIdeal.Moe.probOf (tokens m c) (router m c) n = Cert.ReferenceIdeal.Moe.probOf x w n := by
  have ht : ∀ n k, tokens m c (ix2 n k) = x (ix3 0 n k) := fun n k => by rw [hx]; exact tokens_apply m c n k
  have hr : router m c = w := hw.symm
  unfold Cert.KernelIdeal.Moe.probOf Cert.ReferenceIdeal.Moe.probOf
  rw [hr]
  simp only [ht]

include rx rw' in
/-- They are not negative. -/
theorem probabilities_nonneg (n : Fin 2048) (e : Fin 8) : 0 ≤ Cert.ReferenceIdeal.Moe.probOf x w n e :=
  prob_nonneg (logit_real rx rw' n) e

include hx hw h1 h2 h3 h4 rx rw' in
/-- The first results agree at an index. -/
theorem outputs_apply (n : Fin 2048) (d : Fin 1024) :
    B5 m c (Proc.devRef .tc main_v5) (ix3 0 n d)
      = Cert.ReferenceIdeal.Read.val_main_v65 (F := Ideal) x w W1 b1 W2 b2 (ix3 0 n d) := by
  refine (output_apply m c x hx W1 h1 b1 h2 W2 h3 b2 h4 n d).trans ?_
  refine Eq.trans ?_ (Cert.ReferenceIdeal.Moe.v65_apply x w W1 b1 W2 b2 n d).symm
  refine Finset.sum_congr (M := EReal) rfl fun e _ => ?_
  obtain ⟨a, b, hab⟩ := Cert.TopTwo.exists_isTopTwo (Cert.ReferenceIdeal.Moe.probOf x w n)
  have hp := probabilities m c x hx w hw n
  rw [Cert.ReferenceIdeal.Moe.v63_apply hab e,
    Cert.KernelIdeal.Moe.weightsOf_apply (x := tokens m c) (w := router m c) (n := n) (a := a) (b := b) (by rw [hp]; exact hab)
      (by rw [hp]; exact probabilities_nonneg x w rx rw' n) e, hp]
  exact mul_comm _ _

include hx hw rx rw' in
/-- The second results agree. -/
theorem losses_apply :
    B5 m c (Proc.devRef .tc main_v6) ix0 = Cert.ReferenceIdeal.Read.val_main_v97 (F := Ideal) x w ix0 := by
  refine (loss_apply m c).trans ?_
  have hp : Cert.KernelIdeal.Moe.probOf (tokens m c) (router m c) = Cert.ReferenceIdeal.Moe.probOf x w :=
    funext (probabilities m c x hx w hw)
  choose a b hab using fun n => Cert.TopTwo.exists_isTopTwo (Cert.ReferenceIdeal.Moe.probOf x w n)
  rw [Cert.ReferenceIdeal.Moe.v97_apply x w hab,
    Cert.KernelIdeal.Moe.auxOf_apply (tokens m c) (router m c) (a := a) (b := b) (by rw [hp]; exact hab)
      (by rw [hp]; exact probabilities_nonneg x w rx rw') _, hp]

include hx hw h1 h2 h3 h4 rx rw' in
/-- The first results agree. -/
theorem outputs : B5 m c (Proc.devRef .tc main_v5) = Cert.ReferenceIdeal.Read.val_main_v65 (F := Ideal) x w W1 b1 W2 b2 := by
  funext j
  idx_vars j
  have h0 : j0 = 0 := Subsingleton.elim _ _
  subst h0
  exact outputs_apply m c x hx w hw W1 h1 b1 h2 W2 h3 b2 h4 rx rw' j1 j2

include hx hw rx rw' in
/-- The second results agree. -/
theorem losses : B5 m c (Proc.devRef .tc main_v6) = Cert.ReferenceIdeal.Read.val_main_v97 (F := Ideal) x w := by
  funext j
  have hj : j = ix0 := funext fun a => a.elim0
  subst hj
  exact losses_apply m c x hx w hw rx rw'

end Values

/-- From memories agreeing on the arguments, both programs run and end with equal results and unchanged arguments. -/
theorem holds [Cert.Pre_finite_logits.Facts] :
    Cert.algebraic_KernelIdeal_ReferenceIdeal_pre_finite_logits (hKernelIdeal := Cert.KernelIdeal.Gen.facts)
      (hReferenceIdeal := Cert.ReferenceIdeal.Gen.facts) := by
  intro m g m' g' hpre hargs
  refine ⟨fun c => Cert.ReferenceIdeal.Value.res_main_v65 m' c, fun c => Cert.ReferenceIdeal.Value.res_main_v97 m' c, ?_, ?_⟩
  · refine (θ_run _ _ _).mono ?_ (Cert.KernelIdeal.Moe.runs m g)
    refine fun r h c => ⟨?_, ?_, Cert.KernelIdeal.Moe.arguments_kept m c (h.1 c)⟩
    · obtain ⟨e0, e1, e2, e3, e4, e5⟩ := hargs c
      refine (h.1 c _ (Cert.KernelIdeal.Moe.mem_held Cert.KernelIdeal.main_v5 (by decide))).trans ?_
      refine Eq.trans ?_ (Cert.ReferenceIdeal.Read.val_main_v65_eq m' c).symm
      exact outputs m c _ e0 _ e1 _ e2 _ e3 _ e4 _ e5
        (fun n k => by rw [e0]; exact Cert.Pre_finite_logits.Moe.tokens_real _ _ _ _ _ _ (hpre c).1 n k)
        (fun e k => by rw [e1]; exact Cert.Pre_finite_logits.Moe.router_real _ _ _ _ _ _ (hpre c).2 e k)
    · obtain ⟨e0, e1, e2, e3, e4, e5⟩ := hargs c
      refine (h.1 c _ (Cert.KernelIdeal.Moe.mem_held Cert.KernelIdeal.main_v6 (by decide))).trans ?_
      refine Eq.trans ?_ (Cert.ReferenceIdeal.Read.val_main_v97_eq m' c).symm
      exact losses m c _ e0 _ e1
        (fun n k => by rw [e0]; exact Cert.Pre_finite_logits.Moe.tokens_real _ _ _ _ _ _ (hpre c).1 n k)
        (fun e k => by rw [e1]; exact Cert.Pre_finite_logits.Moe.router_real _ _ _ _ _ _ (hpre c).2 e k)
  · exact Cert.ReferenceIdeal.Value.run m' g'

end Cert.Agreement

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.KernelIdealRun
public import proofs.«01_k».proof.Proof.Agreement
public import proofs.«01_k».proof.Proof.Gen.Pre_finite_logits
public import Idealize.ShloMosaic.Lib.StableHlo.RunHlo

@[expose] public section

noncomputable section

namespace Cert.Proof

open Idealize.ShloMosaic Idealize.SL.Sem Idealize.ShloMosaic.StableHlo

/-- The kernel as printed keeps its arguments and ends quiescent. -/
theorem frame_kernel : Cert.quiescent_Kernel := fun m ρ _ => Cert.Kernel.Moe.frame_holds m ρ

/-- The idealized kernel keeps its arguments and ends quiescent. -/
theorem frame_kernelIdeal : Cert.quiescent_KernelIdeal := fun m ρ _ => Cert.KernelIdeal.Moe.frame_holds m ρ

/-- The idealized reference keeps its arguments; it declares no semaphore. -/
theorem frame_reference : Cert.quiescent_ReferenceIdeal := fun m ρ _ =>
  θ_run_mono (Cert.ReferenceIdeal.Value.run m ρ) fun r h =>
    ⟨fun c => (h c).2.2, sem_eq_zero_of_no_sems (by decide) r.2⟩

/-- With the precondition the frames are the same: it is not used. -/
theorem frame_kernelIdeal_finite [Cert.Pre_finite_logits.Facts] : Cert.quiescent_KernelIdeal_pre_finite_logits :=
  fun m ρ _ => Cert.KernelIdeal.Moe.frame_holds m ρ

theorem frame_reference_finite [Cert.Pre_finite_logits.Facts] : Cert.quiescent_ReferenceIdeal_pre_finite_logits :=
  fun m ρ _ => frame_reference m ρ trivial

/-- The idealization's one rewrite: the rounded constant is named, and its name's value is the reciprocal of the root of two. -/
theorem preserves : Cert.preserves_Kernel_KernelIdeal :=
  IdealRules.named_const.statement Cert.KernelIdeal.κ "inv_sqrt_two" .f32 0x3F3504F3#32 (((Real.sqrt 2)⁻¹ : ℝ) : EReal) rfl

/-- Everything claimed. -/
theorem claim : Cert.Claim := ⟨Cert.Kernel.Gen.facts, Cert.KernelIdeal.Gen.facts, Cert.ReferenceIdeal.Gen.facts,
  Cert.Pre_finite_logits.Gen.facts, frame_kernel, frame_kernelIdeal, frame_kernelIdeal_finite, frame_reference,
  frame_reference_finite, preserves, letI := Cert.Pre_finite_logits.Gen.facts; Cert.Agreement.holds⟩

end Cert.Proof

end
